-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v0_0)) (v4 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_v0_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024x32 : Shape := ⟨3, ![64, 1024, 32]⟩
abbrev S32x512 : Shape := ⟨2, ![32, 512]⟩
abbrev S_ : Shape := ⟨0, ![]⟩

class Facts : Prop where
  bcast_S_S64x1024x32 : S_.BroadcastsInDim S64x1024x32 (![] : Fin 0 → Fin S64x1024x32.rank)
  bcast_S_S32x512 : S_.BroadcastsInDim S32x512 (![] : Fin 0 → Fin S32x512.rank)

variable [Facts]

def fn {F : FTy → Type} [FloatOps F] (main_arg0 : FVec F S64x1024x32 .f32) (main_arg1 : FVec F S32x512 .f32) : IVec S64x1024x32 1 × IVec S32x512 1 :=
  let main_v0 : FVec F S64x1024x32 .f32 := Host.absf main_arg0
  let main_cst : FVec F S_ .f32 := constant S_ .f32 0x7F800000#32
  let main_v1 : FVec F S64x1024x32 .f32 := broadcastInDim S64x1024x32 ![] bcast_S_S64x1024x32 main_cst
  let main_v2 : IVec S64x1024x32 1 := cmpf .olt main_v0 main_v1
  let main_v3 : FVec F S32x512 .f32 := Host.absf main_arg1
  let main_cst_0 : FVec F S_ .f32 := constant S_ .f32 0x7F800000#32
  let main_v4 : FVec F S32x512 .f32 := broadcastInDim S32x512 ![] bcast_S_S32x512 main_cst_0
  let main_v5 : IVec S32x512 1 := cmpf .olt main_v3 main_v4
  (main_v2, main_v5)
-- ==== Kernel.lean ====
abbrev S64x1024x32 : Shape := ⟨3, ![64, 1024, 32]⟩
abbrev S32x512 : Shape := ⟨2, ![32, 512]⟩
abbrev S65536x512 : Shape := ⟨2, ![65536, 512]⟩
abbrev S64x1024 : Shape := ⟨2, ![64, 1024]⟩
abbrev S1x1 : Shape := ⟨2, ![1, 1]⟩
abbrev S8x1024x32 : Shape := ⟨3, ![8, 1024, 32]⟩
abbrev S8192x512 : Shape := ⟨2, ![8192, 512]⟩
abbrev S8x1024 : Shape := ⟨2, ![8, 1024]⟩
abbrev S1x512 : Shape := ⟨2, ![1, 512]⟩
abbrev S512 : Shape := ⟨1, ![512]⟩
abbrev S4096x512 : Shape := ⟨2, ![4096, 512]⟩
abbrev S4x1024x32 : Shape := ⟨3, ![4, 1024, 32]⟩
abbrev S4096x32 : Shape := ⟨2, ![4096, 32]⟩
abbrev S4096 : Shape := ⟨1, ![4096]⟩
abbrev S4096x1 : Shape := ⟨2, ![4096, 1]⟩
abbrev S4x1024 : Shape := ⟨2, ![4, 1024]⟩
abbrev S1x4096 : Shape := ⟨2, ![1, 4096]⟩
abbrev S1x4096x32 : Shape := ⟨3, ![1, 4096, 32]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 13
  | .smem => 0
  | _ => 0

abbrev bufTy : (tb : Table) → Fin (tcTables nBuf tb) → BufTy
  | .hbm, ⟨0, _⟩ => ⟨S64x1024x32, .f32⟩
  | .hbm, ⟨1, _⟩ => ⟨S32x512, .f32⟩
  | .hbm, ⟨2, _⟩ => ⟨S65536x512, .f32⟩
  | .hbm, ⟨3, _⟩ => ⟨S64x1024x32, .f32⟩
  | .hbm, ⟨4, _⟩ => ⟨S64x1024, .i32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .local _ .vmem, ⟨0, _⟩ => ⟨S8x1024x32, .f32⟩
  | .local _ .vmem, ⟨1, _⟩ => ⟨S8x1024x32, .f32⟩
  | .local _ .vmem, ⟨2, _⟩ => ⟨S32x512, .f32⟩
  | .local _ .vmem, ⟨3, _⟩ => ⟨S8192x512, .f32⟩
  | .local _ .vmem, ⟨4, _⟩ => ⟨S8192x512, .f32⟩
  | .local _ .vmem, ⟨5, _⟩ => ⟨S8x1024x32, .f32⟩
  | .local _ .vmem, ⟨6, _⟩ => ⟨S8x1024x32, .f32⟩
  | .local _ .vmem, ⟨7, _⟩ => ⟨S8x1024, .i32⟩
  | .local _ .vmem, ⟨8, _⟩ => ⟨S8x1024, .i32⟩
  | .local _ .vmem, ⟨9, _⟩ => ⟨S1x1, .f32⟩
  | .local _ .vmem, ⟨10, _⟩ => ⟨S1x1, .f32⟩
  | .local _ .vmem, ⟨11, _⟩ => ⟨S1x512, .f32⟩
  | .local _ .vmem, ⟨12, _⟩ => ⟨S1x1, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v109 : BitVec 1 := Scalar.cmpi .eq arg0 c7_i32
  let v110 : BitVec 32 := Scalar.extui v109
  let c0_i32_53 : BitVec 32 := 0#32
  let v111 : BitVec 1 := Scalar.cmpi .ne v110 c0_i32_53
  v111

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1024x32 : Shape := ⟨3, ![64, 1024, 32]⟩
abbrev S32x512 : Shape := ⟨2, ![32, 512]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S65536x512 : Shape := ⟨2, ![65536, 512]⟩
abbrev S512 : Shape := ⟨1, ![512]⟩
abbrev S1x512 : Shape := ⟨2, ![1, 512]⟩
abbrev S64x1024 : Shape := ⟨2, ![64, 1024]⟩
abbrev S512x32 : Shape := ⟨2, ![512, 32]⟩
abbrev S64x1024x1 : Shape := ⟨3, ![64, 1024, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S32x512, .f32⟩
  | .hbm, ⟨2, _⟩ => ⟨S65536x32, .f32⟩
  | .hbm, ⟨3, _⟩ => ⟨S65536x32, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S65536x512, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S32x512, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .i32⟩
  | .hbm, ⟨21, _⟩ => ⟨S_, .f32⟩
  | .hbm, ⟨22, _⟩ => ⟨S_, .i32⟩
  | .hbm, ⟨23, _⟩ => ⟨S65536, .f32⟩
  | .hbm, ⟨24, _⟩ => ⟨S65536, .i32⟩
  | .hbm, ⟨25, _⟩ => ⟨S65536x1, .i32⟩
  | .hbm, ⟨26, _⟩ => ⟨S1x512, .i32⟩
  | .hbm, ⟨27, _⟩ => ⟨S65536x512, .i32⟩
  | .hbm, ⟨28, _⟩ => ⟨S65536x512, .i32⟩
  | .hbm, ⟨29, _⟩ => ⟨S65536x512, .i1⟩
  | .hbm, ⟨30, _⟩ => ⟨S65536x512, .f32⟩
  | .hbm, ⟨31, _⟩ => ⟨S64x1024, .i32⟩
  | .hbm, ⟨32, _⟩ => ⟨S512x32, .f32⟩
  | .hbm, ⟨33, _⟩ => ⟨S_, .i32⟩
  | .hbm, ⟨34, _⟩ => ⟨S64x1024, .i32⟩
  | .hbm, ⟨35, _⟩ => ⟨S64x1024, .i1⟩
  | .hbm, ⟨36, _⟩ => ⟨S_, .i32⟩
  | .hbm, ⟨37, _⟩ => ⟨S64x1024, .i32⟩
  | .hbm, ⟨38, _⟩ => ⟨S64x1024, .i32⟩
  | .hbm, ⟨39, _⟩ => ⟨S64x1024, .i32⟩
  | .hbm, ⟨40, _⟩ => ⟨S64x1024x1, .i32⟩
  | .hbm, ⟨41, _⟩ => ⟨S1, .i32⟩
  | .hbm, ⟨42, _⟩ => ⟨S_, .i32⟩
  | .hbm, ⟨43, _⟩ => ⟨S64x1024x1, .i32⟩
  | .hbm, ⟨44, _⟩ => ⟨S64x1024x1, .i1⟩
  | .hbm, ⟨45, _⟩ => ⟨S1x1x1, .i32⟩
  | .hbm, ⟨46, _⟩ => ⟨S64x1024x1, .i32⟩
  | .hbm, ⟨47, _⟩ => ⟨S64x1024x1, .i1⟩
  | .hbm, ⟨48, _⟩ => ⟨S64x1024x1, .i1⟩
  | .hbm, ⟨49, _⟩ => ⟨S_, .i1⟩
  | .hbm, ⟨50, _⟩ => ⟨S64x1024, .i1⟩
  | .hbm, ⟨51, _⟩ => ⟨S64x1024x32, .f32⟩
  | .hbm, ⟨52, _⟩ => ⟨S64x1024x32, .i1⟩
  | .hbm, ⟨53, _⟩ => ⟨S_, .f32⟩
  | .hbm, ⟨54, _⟩ => ⟨S64x1024x32, .f32⟩
  | .hbm, ⟨55, _⟩ => ⟨S64x1024x32, .f32⟩
  | .hbm, ⟨56, _⟩ => ⟨S64x1024x32, .f32⟩
  | .hbm, ⟨57, _⟩ => ⟨S64x1024x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64x1024x32, .f32⟩
  | .hbm, ⟨63, _⟩ => ⟨S64x1024x32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64x1024x32, .f32⟩
  | .hbm, ⟨72, _⟩ => ⟨S64x1024x32, .f32⟩
  | .hbm, ⟨73, _⟩ => ⟨S_, .f32⟩
  | .hbm, ⟨74, _⟩ => ⟨S512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_cst_3 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_cst_5 : Ref sig .tc := ⟨.hbm, 66, rfl⟩
abbrev main_v27 : Ref sig .tc := ⟨.hbm, 67, rfl⟩
abbrev main_cst_6 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_cst_9 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_10 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩

abbrev nD : Nat := 1
abbrev τ : Topo := Topo.v7x

variable {F : FTy → Type} [FloatOps F]
-- ==== Proof.Rows.lean ====
/-
  One row against the table, as pure mathematics on the extended reals: the squared distance as the kernel writes it and as the
  reference writes it, the first index at which a row of distances is least, and how both programs find that index.
-/
module

public import Idealize.ShloMosaic.Lib.Pointwise

@[expose] public section

noncomputable section

namespace Cert.Rows

open Idealize.ShloMosaic

/-! ### The first least index -/

/-- `j` is the first index at which `d` is least. -/
def IsFirst {n : ℕ} (d : Fin n → EReal) (j : Fin n) : Prop := (∀ k, d j ≤ d k) ∧ ∀ k, d k = d j → j ≤ k

/-- A finite row has a first least index. -/
theorem exists_isFirst {n : ℕ} (d : Fin (n + 1) → EReal) : ∃ j, IsFirst d j := by
  obtain ⟨a, ha⟩ := Finite.exists_min d
  have hne : (Finset.univ.filter fun k => d k = d a).Nonempty := ⟨a, by simp⟩
  refine ⟨(Finset.univ.filter fun k => d k = d a).min' hne, ?_, ?_⟩
  · intro k
    have := Finset.min'_mem _ hne
    rw [Finset.mem_filter] at this
    rw [this.2]; exact ha k
  · intro k hk
    have := Finset.min'_mem _ hne
    rw [Finset.mem_filter] at this
    have hm : k ∈ Finset.univ.filter fun k => d k = d a := Finset.mem_filter.mpr ⟨Finset.mem_univ _, hk.trans this.2⟩
    exact Finset.min'_le _ k hm

/-- There is one such index only. -/
theorem IsFirst.unique {n : ℕ} {d : Fin n → EReal} {i j : Fin n} (hi : IsFirst d i) (hj : IsFirst d j) : i = j :=
  le_antisymm (hi.2 j (le_antisymm (hj.1 i) (hi.1 j))) (hj.2 i (le_antisymm (hi.1 j) (hj.1 i)))

/-- The first index at which a row of distances is least. -/
def first (d : Fin 512 → EReal) : Fin 512 := (exists_isFirst (n := 511) d).choose

/-- The first least index is one. -/
theorem first_spec (d : Fin 512 → EReal) : IsFirst d (first d) := (exists_isFirst (n := 511) d).choose_spec

/-- Whatever is a first least index is the one. -/
theorem first_eq {d : Fin 512 → EReal} {j : Fin 512} (h : IsFirst d j) : first d = j := (first_spec d).unique h

/-- The least entry, as a fold from the top. -/
theorem fold_min_eq (d : Fin 512 → EReal) : Finset.univ.fold min ⊤ d = d (first d) := by
  refine le_antisymm ?_ ?_
  · exact (Finset.fold_min_le _).mpr (.inr ⟨first d, Finset.mem_univ _, le_rfl⟩)
  · exact (Finset.le_fold_min _).mpr ⟨le_top, fun k _ => (first_spec d).1 k⟩

/-- The least among the indices, read as numbers, at which `d` is least — a number beyond every index elsewhere — is the first such
    index. -/
theorem fold_min_index (d : Fin 512 → EReal) :
    Finset.univ.fold min ⊤ (fun k : Fin 512 => if d k = d (first d) then (((k : ℕ) : ℝ) : EReal) else ((512 : ℝ) : EReal))
      = (((first d : ℕ) : ℝ) : EReal) := by
  refine le_antisymm ?_ ?_
  · refine (Finset.fold_min_le _).mpr (.inr ⟨first d, Finset.mem_univ _, ?_⟩)
    rw [if_pos rfl]
  · refine (Finset.le_fold_min _).mpr ⟨le_top, fun k _ => ?_⟩
    split_ifs with h
    · exact EReal.coe_le_coe_iff.mpr (Nat.cast_le.mpr ((first_spec d).2 k h))
    · refine EReal.coe_le_coe_iff.mpr ?_
      have : (first d : ℕ) ≤ 512 := (first d).isLt.le
      exact_mod_cast this

/-! ### The distance -/

/-- The squared distance as the kernel writes it: the table is scaled by minus two before the product. -/
def dist (x : Fin 32 → EReal) (w : Fin 32 → Fin 512 → EReal) (k : Fin 512) : EReal :=
  ∑ c, x c * x c + ∑ c, x c * (w c k * ((-2 : ℝ) : EReal)) + ∑ c, w c k * w c k

/-- The squared distance as the reference writes it: twice the product is subtracted. -/
def distRef (x : Fin 32 → EReal) (w : Fin 32 → Fin 512 → EReal) (k : Fin 512) : EReal :=
  ∑ c, x c * x c - ((2 : ℝ) : EReal) * ∑ c, x c * w c k + ∑ c, w c k * w c k

/-- Neither infinity. -/
def IsReal (a : EReal) : Prop := ∃ r : ℝ, a = (r : EReal)

/-- A sum of reals is their sum on the extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- On real entries the two ways of writing the distance agree. (At infinite entries they do not.) -/
theorem dist_eq {x : Fin 32 → EReal} {w : Fin 32 → Fin 512 → EReal} (hx : ∀ c, IsReal (x c)) (hw : ∀ c k, IsReal (w c k)) :
    distRef x w = dist x w := by
  choose x' hx using hx
  choose w' hw using hw
  obtain rfl : x = fun c => (x' c : EReal) := funext hx
  obtain rfl : w = fun c k => (w' c k : EReal) := funext fun c => funext (hw c)
  funext k
  unfold dist distRef
  simp only [← EReal.coe_mul, ← coe_sum, ← EReal.coe_sub, ← EReal.coe_add]
  congr 1
  have : ∑ c, x' c * (w' c k * (-2)) = -(2 * ∑ c, x' c * w' c k) := by
    rw [Finset.mul_sum, ← Finset.sum_neg_distrib]
    exact Finset.sum_congr rfl fun c _ => by ring
  rw [this]; ring

/-- The column a row is quantised to. -/
def sel (x : Fin 32 → EReal) (w : Fin 32 → Fin 512 → EReal) : Fin 512 := first (dist x w)

/-! ### Rows of zeros and a one -/

/-- A sum against a row of zeros and a one is the entry at the one. -/
theorem sum_onehot {n : ℕ} (s : Fin n) (f : Fin n → EReal) : ∑ k, (if k = s then (1 : EReal) else 0) * f k = f s := by
  rw [Finset.sum_eq_single s]
  · rw [if_pos rfl, one_mul]
  · intro k _ hk; rw [if_neg hk, zero_mul]
  · intro h; exact absurd (Finset.mem_univ s) h

end Cert.Rows

end
-- ==== Proof.Words.lean ====
/-
  The words of the two programs as numbers: the float constants, the integers made floats and back, and the truth values made
  zeros and ones.
-/
module

public import Idealize.ShloMosaic.Lib.Pointwise

@[expose] public section

noncomputable section

namespace Cert.Words

open Idealize.ShloMosaic

/-- The constant minus two. -/
theorem word_neg_two : Ideal.ofBits .f32 0xC0000000#32 = ((-2 : ℝ) : EReal) := by
  simp [Ideal.ofBits, Ideal.ieee, -EReal.coe_mul, -EReal.coe_neg]; norm_num

/-- The constant two. -/
theorem word_two : Ideal.ofBits .f32 0x40000000#32 = ((2 : ℝ) : EReal) := by
  simp [Ideal.ofBits, Ideal.ieee, -EReal.coe_mul, -EReal.coe_neg]; norm_num

/-- The constant 512. -/
theorem word_512 : Ideal.ofBits .f32 0x44000000#32 = ((512 : ℝ) : EReal) := by
  simp [Ideal.ofBits, Ideal.ieee, -EReal.coe_mul, -EReal.coe_neg]; norm_num

/-- The constant plus infinity is the top. -/
theorem word_top : Ideal.ofBits .f32 0x7F800000#32 = ⊤ := by
  simp [Ideal.ofBits, Ideal.ieee]

/-- The constant minus infinity is the bottom. -/
theorem word_bot : Ideal.ofBits .f32 0xFF800000#32 = ⊥ := by
  simp [Ideal.ofBits, Ideal.ieee]

/-- A small index as a word, read as a signed number. -/
theorem toInt_ofNat (k : Fin 512) : (BitVec.ofNat 32 (k : ℕ)).toInt = (k : ℤ) := by
  have := k.isLt
  rw [BitVec.toInt_eq_toNat_cond, BitVec.toNat_ofNat]
  have h : (k : ℕ) % 2 ^ 32 = k := Nat.mod_eq_of_lt (by omega)
  rw [h, if_pos (by omega)]

/-- A small index as a word, made a float, is that number. -/
theorem sitofp_index (k : Fin 512) : (FloatOps.sitofp .f32 (BitVec.ofNat 32 (k : ℕ)) : Ideal .f32) = (((k : ℕ) : ℝ) : EReal) := by
  change (((BitVec.ofNat 32 (k : ℕ)).toInt : ℝ) : EReal) = _
  rw [toInt_ofNat]; norm_cast

/-- A small number made a word is that index. -/
theorem fptosi_index (k : Fin 512) : (FloatOps.fptosi (F := Ideal) (φ := .f32) 32 (((k : ℕ) : ℝ) : EReal) : BitVec 32) = BitVec.ofNat 32 (k : ℕ) := by
  change Ideal.fptosi 32 _ = _
  have hk := k.isLt
  rw [Ideal.fptosi, Ideal.toIntClamped_coe, if_pos (Nat.cast_nonneg _), Int.floor_natCast]
  have h : max (-((2 ^ (32 - 1) : ℕ) : ℤ)) (min (((2 ^ (32 - 1) : ℕ) : ℤ) - 1) ((k : ℕ) : ℤ)) = ((k : ℕ) : ℤ) := by
    norm_num; omega
  rw [h]
  exact BitVec.ofInt_natCast ..

/-- Equal or not, as a signed word made a float. -/
theorem sitofp_truth (p : Prop) [Decidable p] :
    (FloatOps.sitofp .f32 (BitVec.setWidth 32 (BitVec.ofBool (decide p))) : Ideal .f32) = if p then (1 : EReal) else 0 := by
  by_cases h : p
  · simp only [h, decide_true, if_true]
    change (((BitVec.setWidth 32 (BitVec.ofBool true)).toInt : ℝ) : EReal) = 1
    rw [show (BitVec.setWidth 32 (BitVec.ofBool true)).toInt = 1 by decide]; norm_cast
  · simp only [h, decide_false, if_false]
    change (((BitVec.setWidth 32 (BitVec.ofBool false)).toInt : ℝ) : EReal) = 0
    rw [show (BitVec.setWidth 32 (BitVec.ofBool false)).toInt = 0 by decide]; norm_cast

/-- Equal or not, as an unsigned bit made a float. -/
theorem uitofp_truth (p : Prop) [Decidable p] :
    (FloatOps.uitofp .f32 (BitVec.ofBool (decide p)) : Ideal .f32) = if p then (1 : EReal) else 0 := by
  by_cases h : p
  · simp only [h, decide_true, if_true]
    change (((BitVec.ofBool true).toNat : ℝ) : EReal) = 1
    rw [show (BitVec.ofBool true).toNat = 1 by decide]; norm_cast
  · simp only [h, decide_false, if_false]
    change (((BitVec.ofBool false).toNat : ℝ) : EReal) = 0
    rw [show (BitVec.ofBool false).toNat = 0 by decide]; norm_cast

/-- Different small indices are different words. -/
theorem ofNat_inj (k l : Fin 512) : BitVec.ofNat 32 (k : ℕ) = BitVec.ofNat 32 (l : ℕ) ↔ k = l := by
  constructor
  · intro h
    have := congrArg BitVec.toInt h
    rw [toInt_ofNat, toInt_ofNat] at this
    exact Fin.ext (by exact_mod_cast this)
  · rintro rfl; rfl

/-- Different small indices are different numbers. -/
theorem index_inj (k l : Fin 512) : (((k : ℕ) : ℝ) : EReal) = (((l : ℕ) : ℝ) : EReal) ↔ k = l := by
  rw [EReal.coe_eq_coe_iff, Nat.cast_inj, Fin.ext_iff]

end Cert.Words

end
-- ==== Proof.Block.lean ====
/-
  What one half of a block computes: the kernel takes a block's rows in two halves of 4096, and this is each value it computes
  from one half and the table, at an index. The second half is computed by the same text as the first.
-/
module

public import proofs.«01_k».proof.Proof.Gen.KernelIdeal.Skeleton
public import proofs.«01_k».proof.Proof.Rows
public import proofs.«01_k».proof.Proof.Words
public import Idealize.ShloMosaic.Lib.Pointwise

@[expose] public section

set_option maxRecDepth 16384

noncomputable section

namespace Cert.KernelIdeal.Block

open Idealize.ShloMosaic Cert.KernelIdeal.Gen Cert.Rows Cert.Words

/-- A row of a half, by its number in the half. -/
def halfRow (x : Vec Ideal S4x1024x32 .f32) (r : Fin 4096) : Fin 32 → EReal :=
  fun c => x (ix3 ⟨(r : ℕ) / 1024, by omega⟩ ⟨(r : ℕ) % 1024, by omega⟩ c)

/-- The table, by its coordinates. -/
def tab (w : Vec Ideal S32x512 .f32) : Fin 32 → Fin 512 → EReal := fun c k => w (ix2 c k)

/-- The row at two coordinates is the row at the number they make. -/
theorem halfRow_join (x : Vec Ideal S4x1024x32 .f32) (b : Fin 4) (h : Fin 1024) (hr : (b : ℕ) * 1024 + h < 4096) :
    halfRow x ⟨(b : ℕ) * 1024 + h, hr⟩ = fun c => x (ix3 b h c) := by
  funext c
  unfold halfRow
  have h1 : (⟨((⟨(b : ℕ) * 1024 + h, hr⟩ : Fin 4096) : ℕ) / 1024, by omega⟩ : Fin 4) = b := Fin.ext (by simp only []; omega)
  have h2 : (⟨((⟨(b : ℕ) * 1024 + h, hr⟩ : Fin 4096) : ℕ) % 1024, by omega⟩ : Fin 1024) = h := Fin.ext (by simp only []; omega)
  rw [h1, h2]

/-- The flattened half at an index. -/
theorem flat_apply (x : Vec Ideal S4x1024x32 .f32) (r : Fin 4096) (c : Fin 32) : k0_pay8 x (ix2 r c) = halfRow x r c := by
  pointwise [k0_pay8]
  rfl

/-- The distances a half's rows are given, before the least is taken. -/
def halfDist (w : Vec Ideal S32x512 .f32) (x : Vec Ideal S4x1024x32 .f32) : FVec Ideal S4096x512 .f32 :=
  addf (addf (broadcastTo S4096x512 (shapeCast S4096x1 (multiReduction .add [1] S4096 (mulf (k0_pay8 x) (k0_pay8 x)) 0x00000000#32
      reduces_S4096x32_S4096 (.inl rfl) rfl) shapeCasts_S4096_S4096x1) broadcasts_S4096x1_S4096x512)
      (matmul dot_S4096x32_S32x512_S4096x512_1_0_0_1_n_n none (k0_pay8 x) (k0_pay6 w) (constant S4096x512 .f32 0x00000000#32)))
    (broadcastTo S4096x512 (k0_pay5 w) broadcasts_S1x512_S4096x512)

/-- The distances of a half at an index: the row's distance to the column. -/
theorem halfDist_apply (w : Vec Ideal S32x512 .f32) (x : Vec Ideal S4x1024x32 .f32) (r : Fin 4096) (k : Fin 512) :
    halfDist w x (ix2 r k) = dist (halfRow x r) (tab w) k := by
  pointwise [halfDist, k0_pay6, k0_pay5]
  simp only [flat_apply, word_neg_two]
  rfl

/-- The index found for a half's rows, read off the distances. -/
def halfIndex (d : FVec Ideal S4096x512 .f32) : FVec Ideal S4096x1 .f32 :=
  shapeCast S4096x1 (multiReduction .minimumf [1] S4096 (select (cmpf .oeq d (broadcastTo S4096x512 (shapeCast S4096x1
      (multiReduction .minimumf [1] S4096 d 0x7F800000#32 reduces_S4096x512_S4096 (.inl rfl) rfl) shapeCasts_S4096_S4096x1)
        broadcasts_S4096x1_S4096x512)) (k0_pay7 (F := Ideal)) (broadcast S4096x512 (Scalar.ofBits .f32 0x44000000#32)))
      0x7F800000#32 reduces_S4096x512_S4096 (.inl rfl) rfl) shapeCasts_S4096_S4096x1

/-- The kernel's index of a half is read off these distances. -/
theorem halfIndex_eq (w : Vec Ideal S32x512 .f32) (x : Vec Ideal S4x1024x32 .f32) : k0_pay9 w x = halfIndex (halfDist w x) := rfl

/-- The index found for a row is the first at which its distance is least. -/
theorem halfIndex_apply (d : FVec Ideal S4096x512 .f32) (r : Fin 4096) :
    halfIndex d (ix2 r 0) = (((first fun k => d (ix2 r k) : Fin 512) : ℕ) : ℝ) := by
  pointwise [halfIndex, k0_pay7]
  simp only [word_top, word_512, sitofp_index]
  rw [fold_min_eq (fun k => d (ix2 r k))]
  exact fold_min_index fun k => d (ix2 r k)

/-- The column a half's row is quantised to. -/
def halfSel (w : Vec Ideal S32x512 .f32) (x : Vec Ideal S4x1024x32 .f32) (r : Fin 4096) : Fin 512 := sel (halfRow x r) (tab w)

/-- The index found for a row is the column it is quantised to. -/
theorem index_apply (w : Vec Ideal S32x512 .f32) (x : Vec Ideal S4x1024x32 .f32) (r : Fin 4096) :
    k0_pay9 w x (ix2 r 0) = (((halfSel w x r : Fin 512) : ℕ) : ℝ) := by
  rw [halfIndex_eq, halfIndex_apply]
  simp only [halfDist_apply]
  rfl

/-- The numbers of the columns, as floats. -/
theorem iota_apply (r : Fin 4096) (k : Fin 512) : k0_pay7 (F := Ideal) (ix2 r k) = (((k : ℕ) : ℝ) : EReal) := by
  unfold k0_pay7
  pointwise
  exact sitofp_index k

/-- A comparison of two arrays for equality, made a float, at an index. -/
theorem truth_apply (a b : FVec Ideal S4096x512 .f32) (i : S4096x512.Idx) :
    (sitofp .f32 (extui 32 (cmpf .oeq a b) natLt_1_32) : FVec Ideal S4096x512 .f32) i = if a i = b i then (1 : EReal) else 0 :=
  sitofp_truth (a i = b i)

/-- The one-hot rows of a half. -/
theorem onehot_apply (w : Vec Ideal S32x512 .f32) (x : Vec Ideal S4x1024x32 .f32) (r : Fin 4096) (k : Fin 512) :
    k0_pay10 w x (ix2 r k) = if k = halfSel w x r then (1 : EReal) else 0 := by
  unfold k0_pay10
  refine (truth_apply _ _ _).trans ?_
  have h : broadcastTo S4096x512 (k0_pay9 w x) broadcasts_S4096x1_S4096x512 (ix2 r k) = k0_pay9 w x (ix2 r 0) := by
    pointwise
  rw [h, index_apply, iota_apply]
  simp only [index_inj]

/-- The difference between the column taken and the row. -/
theorem diff_apply (w : Vec Ideal S32x512 .f32) (x : Vec Ideal S4x1024x32 .f32) (r : Fin 4096) (c : Fin 32) :
    k0_pay11 w x (ix2 r c) = tab w c (halfSel w x r) - halfRow x r c := by
  unfold k0_pay11
  pointwise
  simp only [onehot_apply, flat_apply]
  rw [sum_onehot (halfSel w x r) fun k => w (ix2 c k)]
  rfl

/-- The quantised half. -/
theorem quant_apply (w : Vec Ideal S32x512 .f32) (x : Vec Ideal S4x1024x32 .f32) (b : Fin 4) (h : Fin 1024) (c : Fin 32) :
    k0_pay12 w x (ix3 b h c)
      = x (ix3 b h c) + (tab w c (sel (fun c => x (ix3 b h c)) (tab w)) - x (ix3 b h c)) := by
  unfold k0_pay12
  pointwise
  rw [diff_apply, flat_apply, halfSel, halfRow_join]

/-- The indices of a half. -/
theorem ids_apply (w : Vec Ideal S32x512 .f32) (x : Vec Ideal S4x1024x32 .f32) (b : Fin 4) (h : Fin 1024) :
    k0_pay13 (k0_pay9 w x) (ix2 b h) = BitVec.ofNat 32 (sel (fun c => x (ix3 b h c)) (tab w) : ℕ) := by
  pointwise [k0_pay13]
  rw [index_apply, fptosi_index, halfSel, halfRow_join]

end Cert.KernelIdeal.Block

end
-- ==== Proof.Point.lean ====
/-
  What the buffers hold after one grid point: the blocks it writes are functions of its rows and of the table, the two
  running sums are what the point before left with its two halves added, and the last point also writes the two means.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Point

open Cert.KernelIdeal Cert.KernelIdeal.Gen Idealize.ShloMosaic Idealize.ShloMosaic.TcCoe Idealize.SL.Sem

variable {F : FTy → Type} [FloatOps F]

/-- The two offsets of a rectangle at the origin of a matrix are zero. -/
theorem origin : (![0, 0] : Fin 2 → ℕ) = fun _ => 0 := funext fun a => by fin_cases a <;> rfl

/-- The first four slabs of a block of rows. -/
def lo (x : Vec F S8x1024x32 .f32) : Vec F S4x1024x32 .f32 :=
  View.ld x (Rect.unit ![0, 0, 0] S4x1024x32.size inb_S8x1024x32_S4x1024x32_0_0_0)

/-- The last four slabs of a block of rows. -/
def hi (x : Vec F S8x1024x32 .f32) : Vec F S4x1024x32 .f32 :=
  View.ld x (Rect.unit ![4, 0, 0] S4x1024x32.size inb_S8x1024x32_S4x1024x32_4_0_0)

/-- The block of encodings. -/
def enc (w : Vec F S32x512 .f32) (x : Vec F S8x1024x32 .f32) : Vec F S8192x512 .f32 :=
  View.canon [⟨Rect.unit (s := S8192x512) ![4096, 0] S4096x512.size inb_S8192x512_S4096x512_4096_0, k0_pay10 w (hi x)⟩,
    ⟨Rect.unit (s := S8192x512) ![0, 0] S4096x512.size inb_S8192x512_S4096x512_0_0, k0_pay10 w (lo x)⟩]

/-- The block of quantised rows. -/
def quant (w : Vec F S32x512 .f32) (x : Vec F S8x1024x32 .f32) : Vec F S8x1024x32 .f32 :=
  View.canon [⟨Rect.unit (s := S8x1024x32) ![4, 0, 0] S4x1024x32.size inb_S8x1024x32_S4x1024x32_4_0_0, k0_pay12 w (hi x)⟩,
    ⟨Rect.unit (s := S8x1024x32) ![0, 0, 0] S4x1024x32.size inb_S8x1024x32_S4x1024x32_0_0_0, k0_pay12 w (lo x)⟩]

/-- The block of indices. -/
def ids (w : Vec F S32x512 .f32) (x : Vec F S8x1024x32 .f32) : Vec F S8x1024 .i32 :=
  k0_pay24 (k0_pay13 (k0_pay9 w (lo x))) (k0_pay17 (k0_pay5 w) (k0_pay6 w) k0_pay7 (hi x))

/-- The counts after a point, from the counts before it. -/
def hist (w : Vec F S32x512 .f32) (x : Vec F S8x1024x32 .f32) (h : Vec F S1x512 .f32) : Vec F S1x512 .f32 :=
  k0_pay14 (k0_pay10 w (hi x)) (k0_pay14 (k0_pay10 w (lo x)) h)

/-- The summed squares after a point, from the sum before it. -/
def sse (w : Vec F S32x512 .f32) (x : Vec F S8x1024x32 .f32) (s : Vec F S1x1 .f32) : Vec F S1x1 .f32 :=
  k0_pay15 (k0_pay11 w (hi x)) (k0_pay15 (k0_pay11 w (lo x)) s)

/-- The second half's encodings are computed as the first half's are. -/
theorem enc_second (w : Vec F S32x512 .f32) (x : Vec F S4x1024x32 .f32) :
    k0_pay19 k0_pay7 (k0_pay17 (k0_pay5 w) (k0_pay6 w) k0_pay7 x) = k0_pay10 w x := rfl

/-- The second half's quantised rows are computed as the first half's are. -/
theorem quant_second (w : Vec F S32x512 .f32) (x : Vec F S4x1024x32 .f32) :
    k0_pay21 w k0_pay7 (k0_pay16 x) (k0_pay17 (k0_pay5 w) (k0_pay6 w) k0_pay7 x) = k0_pay12 w x := rfl

/-- The second half's counts are added as the first half's are. -/
theorem hist_second (w : Vec F S32x512 .f32) (x : Vec F S4x1024x32 .f32) (h : Vec F S1x512 .f32) :
    k0_pay22 k0_pay7 (k0_pay17 (k0_pay5 w) (k0_pay6 w) k0_pay7 x) h = k0_pay14 (k0_pay10 w x) h := rfl

/-- The second half's squares are added as the first half's are. -/
theorem sse_second (w : Vec F S32x512 .f32) (x : Vec F S4x1024x32 .f32) (s : Vec F S1x1 .f32) :
    k0_pay23 w k0_pay7 (k0_pay16 x) (k0_pay17 (k0_pay5 w) (k0_pay6 w) k0_pay7 x) s = k0_pay15 (k0_pay11 w x) s := rfl

/-- A load of the whole table reads the table. -/
theorem ld_table (x : Vec F S32x512 .f32) (inb : ∀ a, (![0, 0] : Fin 2 → ℕ) a + (![32, 512] : Fin 2 → ℕ) a ≤ S32x512.size a) :
    View.ld x (Rect.unit (s := S32x512) ![0, 0] ![32, 512] inb) = x := View.ld_unit_zero (S := S32x512) origin inb x

/-- A load of the whole row of counts reads the row. -/
theorem ld_counts (x : Vec F S1x512 .f32) (inb : ∀ a, (![0, 0] : Fin 2 → ℕ) a + (![1, 512] : Fin 2 → ℕ) a ≤ S1x512.size a) :
    View.ld x (Rect.unit (s := S1x512) ![0, 0] ![1, 512] inb) = x := View.ld_unit_zero (S := S1x512) origin inb x

/-- A load of a whole single cell reads the cell. -/
theorem ld_cell (x : Vec F S1x1 .f32) (inb : ∀ a, (![0, 0] : Fin 2 → ℕ) a + (![1, 1] : Fin 2 → ℕ) a ≤ S1x1.size a) :
    View.ld x (Rect.unit (s := S1x1) ![0, 0] ![1, 1] inb) = x := View.ld_unit_zero (S := S1x1) origin inb x

/-- The last store of the whole row of counts is what the row holds. -/
theorem canon_counts (x : Vec F S1x512 .f32) (inb : ∀ a, (![0, 0] : Fin 2 → ℕ) a + (![1, 512] : Fin 2 → ℕ) a ≤ S1x512.size a)
    (L : List (View.Piece (Elt F) S1x512 .f32)) :
    View.canon ((⟨Rect.unit (s := S1x512) ![0, 0] ![1, 512] inb, x⟩ : View.Piece (Elt F) S1x512 .f32) :: L) = x :=
  View.canon_cons_unit_zero (S := S1x512) origin inb x L

/-- The last store of a whole single cell is what the cell holds. -/
theorem canon_cell (x : Vec F S1x1 .f32) (inb : ∀ a, (![0, 0] : Fin 2 → ℕ) a + (![1, 1] : Fin 2 → ℕ) a ≤ S1x1.size a)
    (L : List (View.Piece (Elt F) S1x1 .f32)) :
    View.canon ((⟨Rect.unit (s := S1x1) ![0, 0] ![1, 1] inb, x⟩ : View.Piece (Elt F) S1x1 .f32) :: L) = x :=
  View.canon_cons_unit_zero (S := S1x1) origin inb x L

/-- The last store of the whole block of indices is what the block holds. -/
theorem canon_ids (x : Vec F S8x1024 .i32) (inb : ∀ a, (![0, 0] : Fin 2 → ℕ) a + (![8, 1024] : Fin 2 → ℕ) a ≤ S8x1024.size a)
    (L : List (View.Piece (Elt F) S8x1024 .i32)) :
    View.canon ((⟨Rect.unit (s := S8x1024) ![0, 0] ![8, 1024] inb, x⟩ : View.Piece (Elt F) S8x1024 .i32) :: L) = x :=
  View.canon_cons_unit_zero (S := S8x1024) origin inb x L

variable (m : (ℓ : Loc nD τ sig) → Buf (Elt F) ℓ)

/-- After the first point: its blocks, and the running sums begun at zero. -/
theorem first (c : Dev nD) (t : Fin cfg0.N) (h0 : t.val % 8 = 0) (h1 : ¬t.val % 8 = 7) :
    (outsAt0 m c t.val t.isLt).1 = enc (iblk m c 1 t) (iblk m c 0 t)
    ∧ (outsAt0 m c t.val t.isLt).2.1 = quant (iblk m c 1 t) (iblk m c 0 t)
    ∧ (outsAt0 m c t.val t.isLt).2.2.1 = ids (iblk m c 1 t) (iblk m c 0 t)
    ∧ (outsAt0 m c t.val t.isLt).2.2.2.2.2.1 = hist (iblk m c 1 t) (iblk m c 0 t) k0_pay3
    ∧ (outsAt0 m c t.val t.isLt).2.2.2.2.2.2 = sse (iblk m c 1 t) (iblk m c 0 t) k0_pay4 := by
  rw [outsAt0_A m c t h0 h1]
  dsimp only
  unfold out0_A_2 out0_A_3 out0_A_4 sout0_A_0 sout0_A_1
  simp only [View.read_writes_junk_eq_canon]
  unfold kernelRun0_A
  dsimp only
  sl_unfold_words
  simp only [View.readAt_eq_ld, (hs0_0 t).read_unread, (hs0_1 t).read_unread, View.readCov_cons_toLoadRect, ld_table, canon_counts,
    canon_cell, canon_ids, enc_second, quant_second, hist_second, sse_second]
  exact ⟨rfl, rfl, rfl, rfl, rfl⟩

/-- What a point that is not the first finds in the row of counts. -/
abbrev histBefore (c : Dev nD) (t : Fin cfg0.N) : Vec F S1x512 .f32 :=
  (outsAt0 m c (t.val - 1) (Nat.lt_of_le_of_lt (Nat.sub_le _ _) t.isLt)).2.2.2.2.2.1

/-- What a point that is not the first finds in the cell of summed squares. -/
abbrev sseBefore (c : Dev nD) (t : Fin cfg0.N) : Vec F S1x1 .f32 :=
  (outsAt0 m c (t.val - 1) (Nat.lt_of_le_of_lt (Nat.sub_le _ _) t.isLt)).2.2.2.2.2.2

/-- After a point between the first and the last: its blocks, and the running sums continued. -/
theorem middle (c : Dev nD) (t : Fin cfg0.N) (h0 : ¬t.val % 8 = 0) (h1 : ¬t.val % 8 = 7) :
    (outsAt0 m c t.val t.isLt).1 = enc (iblk m c 1 t) (iblk m c 0 t)
    ∧ (outsAt0 m c t.val t.isLt).2.1 = quant (iblk m c 1 t) (iblk m c 0 t)
    ∧ (outsAt0 m c t.val t.isLt).2.2.1 = ids (iblk m c 1 t) (iblk m c 0 t)
    ∧ (outsAt0 m c t.val t.isLt).2.2.2.2.2.1 = hist (iblk m c 1 t) (iblk m c 0 t) (histBefore m c t)
    ∧ (outsAt0 m c t.val t.isLt).2.2.2.2.2.2 = sse (iblk m c 1 t) (iblk m c 0 t) (sseBefore m c t) := by
  rw [outsAt0_B m c t h0 h1]
  dsimp only
  unfold out0_B_2 out0_B_3 out0_B_4 sout0_B_0 sout0_B_1
  simp only [View.read_writes_junk_eq_canon]
  unfold kernelRun0_B
  dsimp only
  sl_unfold_words
  simp only [View.readAt_eq_ld, (hs0_0 t).read_unread, (hs0_1 t).read_unread, (Memref.isWhole_whole _).read_unread,
    View.readCov_cons_toLoadRect, ld_table, ld_counts, ld_cell, canon_counts, canon_cell, canon_ids, enc_second, quant_second,
    hist_second, sse_second]
  exact ⟨rfl, rfl, rfl, rfl, rfl⟩

/-- After the last point: its blocks, the running sums continued, and the loss and the perplexity read off them. -/
theorem last (c : Dev nD) (t : Fin cfg0.N) (h0 : ¬t.val % 8 = 0) (h1 : t.val % 8 = 7) :
    (outsAt0 m c t.val t.isLt).1 = enc (iblk m c 1 t) (iblk m c 0 t)
    ∧ (outsAt0 m c t.val t.isLt).2.1 = quant (iblk m c 1 t) (iblk m c 0 t)
    ∧ (outsAt0 m c t.val t.isLt).2.2.1 = ids (iblk m c 1 t) (iblk m c 0 t)
    ∧ (outsAt0 m c t.val t.isLt).2.2.2.1 = k0_pay1 (sse (iblk m c 1 t) (iblk m c 0 t) (sseBefore m c t))
    ∧ (outsAt0 m c t.val t.isLt).2.2.2.2.1 = k0_pay2 (hist (iblk m c 1 t) (iblk m c 0 t) (histBefore m c t)) := by
  rw [outsAt0_C m c t h0 h1]
  dsimp only
  unfold out0_C_2 out0_C_3 out0_C_4 out0_C_5 out0_C_6
  simp only [View.read_writes_junk_eq_canon]
  unfold kernelRun0_C
  dsimp only
  sl_unfold_words
  simp only [View.readAt_eq_ld, (hs0_0 t).read_unread, (hs0_1 t).read_unread, (Memref.isWhole_whole _).read_unread,
    View.readCov_cons_toLoadRect, ld_table, ld_counts, ld_cell, canon_counts, canon_cell, canon_ids, enc_second, quant_second,
    hist_second, sse_second]
  exact ⟨rfl, rfl, rfl, rfl, rfl⟩

end Cert.KernelIdeal.Point
-- ==== Proof.Whole.lean ====
/-
  What one grid point leaves, at an index: each of its blocks read entry by entry, and the two running sums as what was there
  before plus a sum over the 8192 rows of the block.
-/
module

public import proofs.«01_k».proof.Proof.Block
public import proofs.«01_k».proof.Proof.Point

@[expose] public section

set_option maxRecDepth 16384

noncomputable section

namespace Cert.KernelIdeal.Whole

open Cert.KernelIdeal Idealize.ShloMosaic Cert.KernelIdeal.Gen Cert.Rows Cert.Words Cert.KernelIdeal.Block Cert.KernelIdeal.Point

/-- A row of a block, by its number in the block. -/
def row (x : Vec Ideal S8x1024x32 .f32) (r : Fin 8192) : Fin 32 → EReal :=
  fun c => x (ix3 ⟨(r : ℕ) / 1024, by omega⟩ ⟨(r : ℕ) % 1024, by omega⟩ c)

/-- The first half of a block, at an index. -/
theorem lo_apply (x : Vec Ideal S8x1024x32 .f32) (b : Fin 4) (h : Fin 1024) (c : Fin 32) :
    lo x (ix3 b h c) = x (ix3 ⟨(b : ℕ), by omega⟩ h c) := by
  unfold lo View.ld
  congr 1
  funext a
  match a with
  | ⟨0, _⟩ => exact Fin.ext (by show 0 + 1 * (b : ℕ) = b; omega)
  | ⟨1, _⟩ => exact Fin.ext (by show 0 + 1 * (h : ℕ) = h; omega)
  | ⟨2, _⟩ => exact Fin.ext (by show 0 + 1 * (c : ℕ) = c; omega)

/-- The second half of a block, at an index. -/
theorem hi_apply (x : Vec Ideal S8x1024x32 .f32) (b : Fin 4) (h : Fin 1024) (c : Fin 32) :
    hi x (ix3 b h c) = x (ix3 ⟨4 + (b : ℕ), by omega⟩ h c) := by
  unfold hi View.ld
  congr 1
  funext a
  match a with
  | ⟨0, _⟩ => exact Fin.ext (by show 4 + 1 * (b : ℕ) = 4 + b; omega)
  | ⟨1, _⟩ => exact Fin.ext (by show 0 + 1 * (h : ℕ) = h; omega)
  | ⟨2, _⟩ => exact Fin.ext (by show 0 + 1 * (c : ℕ) = c; omega)

/-- The rows of the first half are the block's first 4096. -/
theorem halfRow_lo (x : Vec Ideal S8x1024x32 .f32) (r : Fin 4096) : halfRow (lo x) r = row x (Fin.castAdd 4096 r) := by
  funext c
  exact lo_apply x _ _ c

/-- The rows of the second half are the block's last 4096. -/
theorem halfRow_hi (x : Vec Ideal S8x1024x32 .f32) (r : Fin 4096) : halfRow (hi x) r = row x (Fin.natAdd 4096 r) := by
  funext c
  refine (hi_apply x _ _ c).trans ?_
  unfold row
  congr 2
  · exact Fin.ext (by show 4 + (r : ℕ) / 1024 = (4096 + (r : ℕ)) / 1024; omega)
  · exact Fin.ext (by show (r : ℕ) % 1024 = (4096 + (r : ℕ)) % 1024; omega)

/-- The count a row adds to a column. -/
def hot (w : Vec Ideal S32x512 .f32) (v : Fin 32 → EReal) (k : Fin 512) : EReal := if k = sel v (tab w) then 1 else 0

/-- The square a row adds. -/
def square (w : Vec Ideal S32x512 .f32) (v : Fin 32 → EReal) : EReal :=
  ∑ c, (tab w c (sel v (tab w)) - v c) * (tab w c (sel v (tab w)) - v c)

/-- The block of encodings at an index. -/
theorem enc_apply (w : Vec Ideal S32x512 .f32) (x : Vec Ideal S8x1024x32 .f32) (r : Fin 8192) (k : Fin 512) :
    enc w x (ix2 r k) = hot w (row x r) k := by
  refine Fin.addCases (m := 4096) (n := 4096) (motive := fun r => enc w x (ix2 r k) = hot w (row x r) k)
    (fun r => ?_) (fun r => ?_) r <;> unfold enc
  · rw [View.canon_cons_of_not_mem]
    · have e : (ix2 (Fin.castAdd 4096 r) k : S8192x512.Idx)
          = (Rect.unit (s := S8192x512) ![0, 0] S4096x512.size inb_S8192x512_S4096x512_0_0).emb (ix2 r k) := by
        funext a
        match a with
        | ⟨0, _⟩ => exact Fin.ext (by show (r : ℕ) = 0 + 1 * (r : ℕ); omega)
        | ⟨1, _⟩ => exact Fin.ext (by show (k : ℕ) = 0 + 1 * (k : ℕ); omega)
      rw [e, View.canon_cons_emb, onehot_apply, halfSel, halfRow_lo]; rfl
    · rw [Rect.mem_set_unit]
      intro h
      have := (h 0).1
      have h' : 4096 ≤ (r : ℕ) := this
      omega
  · have e : (ix2 (Fin.natAdd 4096 r) k : S8192x512.Idx)
        = (Rect.unit (s := S8192x512) ![4096, 0] S4096x512.size inb_S8192x512_S4096x512_4096_0).emb (ix2 r k) := by
      funext a
      match a with
      | ⟨0, _⟩ => exact Fin.ext (by show 4096 + (r : ℕ) = 4096 + 1 * (r : ℕ); omega)
      | ⟨1, _⟩ => exact Fin.ext (by show (k : ℕ) = 0 + 1 * (k : ℕ); omega)
    rw [e, View.canon_cons_emb, onehot_apply, halfSel, halfRow_hi]; rfl

/-- What a row is quantised to, as the kernel writes it. -/
def moved (w : Vec Ideal S32x512 .f32) (v : Fin 32 → EReal) (c : Fin 32) : EReal := v c + (tab w c (sel v (tab w)) - v c)

/-- The block of quantised rows at an index. -/
theorem quant_at (w : Vec Ideal S32x512 .f32) (x : Vec Ideal S8x1024x32 .f32) (b : Fin 8) (h : Fin 1024) (c : Fin 32) :
    quant w x (ix3 b h c) = moved w (fun c => x (ix3 b h c)) c := by
  refine Fin.addCases (m := 4) (n := 4) (motive := fun b => quant w x (ix3 b h c) = moved w (fun c => x (ix3 b h c)) c)
    (fun b => ?_) (fun b => ?_) b <;> unfold quant
  · rw [View.canon_cons_of_not_mem]
    · have e : (ix3 (Fin.castAdd 4 b) h c : S8x1024x32.Idx)
          = (Rect.unit (s := S8x1024x32) ![0, 0, 0] S4x1024x32.size inb_S8x1024x32_S4x1024x32_0_0_0).emb (ix3 b h c) := by
        funext a
        match a with
        | ⟨0, _⟩ => exact Fin.ext (by show (b : ℕ) = 0 + 1 * (b : ℕ); omega)
        | ⟨1, _⟩ => exact Fin.ext (by show (h : ℕ) = 0 + 1 * (h : ℕ); omega)
        | ⟨2, _⟩ => exact Fin.ext (by show (c : ℕ) = 0 + 1 * (c : ℕ); omega)
      rw [e, View.canon_cons_emb, quant_apply]
      simp only [lo_apply]; rfl
    · rw [Rect.mem_set_unit]
      intro h
      have := (h 0).1
      have h' : 4 ≤ (b : ℕ) := this
      omega
  · have e : (ix3 (Fin.natAdd 4 b) h c : S8x1024x32.Idx)
        = (Rect.unit (s := S8x1024x32) ![4, 0, 0] S4x1024x32.size inb_S8x1024x32_S4x1024x32_4_0_0).emb (ix3 b h c) := by
      funext a
      match a with
      | ⟨0, _⟩ => exact Fin.ext (by show 4 + (b : ℕ) = 4 + 1 * (b : ℕ); omega)
      | ⟨1, _⟩ => exact Fin.ext (by show (h : ℕ) = 0 + 1 * (h : ℕ); omega)
      | ⟨2, _⟩ => exact Fin.ext (by show (c : ℕ) = 0 + 1 * (c : ℕ); omega)
    rw [e, View.canon_cons_emb, quant_apply]
    simp only [hi_apply]; rfl

/-- The index found in the second half, at a row. -/
theorem index_second (w : Vec Ideal S32x512 .f32) (x : Vec Ideal S4x1024x32 .f32) :
    k0_pay18 (k0_pay17 (k0_pay5 w) (k0_pay6 w) k0_pay7 x) = k0_pay9 w x := rfl

/-- The two halves' indices side by side, at an index. -/
theorem join_apply (i : IVec S4x1024 32) (v : FVec Ideal S4096x512 .f32) (b : Fin 8) (h : Fin 1024) :
    k0_pay24 i v (ix2 b h) = if h_1 : (b : ℕ) < 4 then i (ix2 ⟨(b : ℕ), h_1⟩ h) else
      FloatOps.fptosi 32 (k0_pay18 v (ix2 ⟨((b : ℕ) - 4) * 1024 + (h : ℕ), by omega⟩ 0)) := by
  unfold k0_pay24
  pointwise

/-- The block of indices at an index. -/
theorem ids_at (w : Vec Ideal S32x512 .f32) (x : Vec Ideal S8x1024x32 .f32) (b : Fin 8) (h : Fin 1024) :
    ids w x (ix2 b h) = BitVec.ofNat 32 (sel (fun c => x (ix3 b h c)) (tab w) : ℕ) := by
  unfold ids
  rw [join_apply]
  split
  · rw [ids_apply]
    simp only [lo_apply]
  · rename_i hb
    rw [index_second, index_apply, fptosi_index, halfSel, halfRow_join _ (⟨(b : ℕ) - 4, by omega⟩ : Fin 4)]
    simp only [hi_apply]
    have e : (⟨4 + ((b : ℕ) - 4), by omega⟩ : Fin 8) = b := Fin.ext (by show 4 + ((b : ℕ) - 4) = b; omega)
    rw [e]

/-- A half's counts added to the counts before, at a column. -/
theorem count_apply (v : FVec Ideal S4096x512 .f32) (h : Vec Ideal S1x512 .f32) (k : Fin 512) :
    k0_pay14 v h (ix2 0 k) = h (ix2 0 k) + ∑ r, v (ix2 r k) := by
  unfold k0_pay14
  pointwise

/-- A half's squares added to the sum before. -/
theorem squares_apply (v : FVec Ideal S4096x32 .f32) (s : Vec Ideal S1x1 .f32) :
    k0_pay15 v s (ix2 0 0) = s (ix2 0 0) + ∑ r, ∑ c, v (ix2 r c) * v (ix2 r c) := by
  unfold k0_pay15
  pointwise

/-- The counts after a point: a sum over the block's rows added. -/
theorem hist_apply (w : Vec Ideal S32x512 .f32) (x : Vec Ideal S8x1024x32 .f32) (h : Vec Ideal S1x512 .f32) (k : Fin 512) :
    hist w x h (ix2 0 k) = h (ix2 0 k) + ∑ r, hot w (row x r) k := by
  unfold hist
  rw [count_apply, count_apply, add_assoc, Fin.sum_univ_add (a := 4096) (b := 4096) (fun r => hot w (row x r) k)]
  simp only [onehot_apply, halfSel, halfRow_lo, halfRow_hi]
  rfl

/-- The squares after a point: a sum over the block's rows added. -/
theorem sse_apply (w : Vec Ideal S32x512 .f32) (x : Vec Ideal S8x1024x32 .f32) (s : Vec Ideal S1x1 .f32) :
    sse w x s (ix2 0 0) = s (ix2 0 0) + ∑ r, square w (row x r) := by
  unfold sse
  rw [squares_apply, squares_apply, add_assoc, Fin.sum_univ_add (a := 4096) (b := 4096) (fun r => square w (row x r))]
  simp only [diff_apply, halfSel, halfRow_lo, halfRow_hi]
  rfl

/-- The loss read off the summed squares. -/
theorem loss_apply (s : Vec Ideal S1x1 .f32) :
    k0_pay1 s (ix2 0 0) = Ideal.div (s (ix2 0 0)) (Ideal.ofBits .f32 0x4A000000#32)
      + Ideal.ofBits .f32 0x3E800000#32 * Ideal.div (s (ix2 0 0)) (Ideal.ofBits .f32 0x4A000000#32) := by
  unfold k0_pay1
  pointwise

/-- The perplexity read off the counts. -/
theorem perplexity_apply (h : Vec Ideal S1x512 .f32) :
    k0_pay2 h (ix2 0 0) = Ideal.exp (0 - ∑ k : Fin 512, Ideal.div (h (ix2 0 k)) (Ideal.ofBits .f32 0x47800000#32)
      * Ideal.log (Ideal.div (h (ix2 0 k)) (Ideal.ofBits .f32 0x47800000#32) + Ideal.ofBits .f32 0x2EDBE6FF#32)) := by
  unfold k0_pay2
  pointwise

/-- The counts begin at zero. -/
theorem counts_zero (k : Fin 512) : k0_pay3 (F := Ideal) (ix2 0 k) = 0 := by
  unfold k0_pay3
  pointwise

/-- The squares begin at zero. -/
theorem squares_zero : k0_pay4 (F := Ideal) (ix2 0 0) = 0 := by
  unfold k0_pay4
  pointwise

end Cert.KernelIdeal.Whole

end
-- ==== Proof.Arrays.lean ====
/-
  What the result arrays of the kernel hold after its run, as functions of the two arguments: each block of the grid is written
  once, and the two running sums add up a term for each of the 65536 rows.
-/
module

public import proofs.«01_k».proof.Proof.Whole

@[expose] public section

set_option maxRecDepth 16384

noncomputable section

namespace Cert.KernelIdeal.Arrays

open Cert.KernelIdeal Cert.KernelIdeal.Gen Idealize.ShloMosaic Idealize.ShloMosaic.TcCoe Idealize.SL.Sem
open Cert.Rows Cert.Words Cert.KernelIdeal.Block Cert.KernelIdeal.Point Cert.KernelIdeal.Whole

/-- A row of the inputs, by its number. -/
def rowOf (x : Vec Ideal S64x1024x32 .f32) (n : ℕ) : Fin 32 → EReal :=
  fun c => x (ix3 ⟨n / 1024 % 64, Nat.mod_lt _ (by decide)⟩ ⟨n % 1024, Nat.mod_lt _ (by decide)⟩ c)

/-- The row at two coordinates. -/
theorem rowOf_pair (x : Vec Ideal S64x1024x32 .f32) (b : Fin 64) (h : Fin 1024) :
    rowOf x (1024 * (b : ℕ) + h) = fun c => x (ix3 b h c) := by
  have hb := b.isLt
  have hh := h.isLt
  have e1 : (1024 * (b : ℕ) + h) / 1024 % 64 = b := by omega
  have e2 : (1024 * (b : ℕ) + h) % 1024 = h := by omega
  funext c
  unfold rowOf
  congr 2
  · exact Fin.ext e1
  · exact Fin.ext e2

/-- All encodings. -/
def encAll (w : Vec Ideal S32x512 .f32) (x : Vec Ideal S64x1024x32 .f32) : Vec Ideal S65536x512 .f32 :=
  fun i => hot w (rowOf x (i (0 : Fin 2)).val) (i (1 : Fin 2))

/-- All quantised rows. -/
def quantAll (w : Vec Ideal S32x512 .f32) (x : Vec Ideal S64x1024x32 .f32) : Vec Ideal S64x1024x32 .f32 :=
  fun i => moved w (fun c => x (ix3 (i (0 : Fin 3)) (i (1 : Fin 3)) c)) (i (2 : Fin 3))

/-- All indices. -/
def idsAll (w : Vec Ideal S32x512 .f32) (x : Vec Ideal S64x1024x32 .f32) : Vec Ideal S64x1024 .i32 :=
  fun i => BitVec.ofNat 32 (sel (fun c => x (ix3 (i (0 : Fin 2)) (i (1 : Fin 2)) c)) (tab w) : ℕ)

/-- The counts over the first `n` rows. -/
def counts (w : Vec Ideal S32x512 .f32) (x : Vec Ideal S64x1024x32 .f32) (n : ℕ) (k : Fin 512) : EReal :=
  ∑ r ∈ Finset.range n, hot w (rowOf x r) k

/-- The summed squares over the first `n` rows. -/
def squares (w : Vec Ideal S32x512 .f32) (x : Vec Ideal S64x1024x32 .f32) (n : ℕ) : EReal :=
  ∑ r ∈ Finset.range n, square w (rowOf x r)

/-- The loss from the summed squares. -/
def lossOf (s : EReal) : EReal := Ideal.div s (Ideal.ofBits .f32 0x4A000000#32)
  + Ideal.ofBits .f32 0x3E800000#32 * Ideal.div s (Ideal.ofBits .f32 0x4A000000#32)

/-- The perplexity from the counts. -/
def perplexityOf (h : Fin 512 → EReal) : EReal := Ideal.exp (0 - ∑ k : Fin 512, Ideal.div (h k) (Ideal.ofBits .f32 0x47800000#32)
      * Ideal.log (Ideal.div (h k) (Ideal.ofBits .f32 0x47800000#32) + Ideal.ofBits .f32 0x2EDBE6FF#32))

variable (m : (ℓ : Loc nD τ sig) → Buf (Elt Ideal) ℓ) (c : Dev nD)

/-- The inputs. -/
abbrev argX : Vec Ideal S64x1024x32 .f32 := m ((c : Thread nD τ).loc main_arg0)

/-- The table of columns. -/
abbrev argW : Vec Ideal S32x512 .f32 := m ((c : Thread nD τ).loc main_arg1)

/-- The blocks' places: the blocks of rows follow one another, the others do not move. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The table is one block. -/
theorem index1 : ∀ t : Fin cfg0.N, win0_1.index t (0 : Fin 2) = 0 ∧ win0_1.index t (1 : Fin 2) = 0 :=
  (by decide +kernel : ∀ t : Fin grid0.N, _)
/-- The blocks of encodings follow one another. -/
theorem index2 : ∀ t : Fin cfg0.N, win0_2.index t (0 : Fin 2) = t.val ∧ win0_2.index t (1 : Fin 2) = 0 :=
  (by decide +kernel : ∀ t : Fin grid0.N, _)
/-- So do the blocks of quantised rows. -/
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)
/-- So do the blocks of indices. -/
theorem index4 : ∀ t : Fin cfg0.N, win0_4.index t (0 : Fin 2) = t.val ∧ win0_4.index t (1 : Fin 2) = 0 :=
  (by decide +kernel : ∀ t : Fin grid0.N, _)
/-- The loss is one cell. -/
theorem index5 : ∀ t : Fin cfg0.N, win0_5.index t (0 : Fin 2) = 0 ∧ win0_5.index t (1 : Fin 2) = 0 :=
  (by decide +kernel : ∀ t : Fin grid0.N, _)
/-- The perplexity is one cell. -/
theorem index6 : ∀ t : Fin cfg0.N, win0_6.index t (0 : Fin 2) = 0 ∧ win0_6.index t (1 : Fin 2) = 0 :=
  (by decide +kernel : ∀ t : Fin grid0.N, _)

/-- There are eight points. -/
theorem point_lt (t : Fin cfg0.N) : t.val < 8 := lt_of_lt_of_eq t.isLt N_0

/-- The block of rows a point is given. -/
theorem rows_at (t : Fin cfg0.N) (b : Fin 8) (h : Fin 1024) (k : Fin 32) :
    (iblk m c 0 t : Vec Ideal S8x1024x32 .f32) (ix3 b h k)
      = argX m c (ix3 ⟨8 * t.val + b, by have := point_lt t; omega⟩ h k) := by
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t (0 : Fin 3) * 8 + 1 * (b : ℕ) = 8 * t.val + b; rw [e0]; omega
  | ⟨1, _⟩ => show win0_0.index t (1 : Fin 3) * 1024 + 1 * (h : ℕ) = h; rw [e1]; omega
  | ⟨2, _⟩ => show win0_0.index t (2 : Fin 3) * 32 + 1 * (k : ℕ) = k; rw [e2]; omega

/-- Every point is given the whole table. -/
theorem table_at (t : Fin cfg0.N) : (iblk m c 1 t : Vec Ideal S32x512 .f32) = argW m c := by
  obtain ⟨e0, e1⟩ := index1 t
  funext j
  unfold iblk
  rw [View.read_apply]
  show V m c main_arg1 _ = m (c.tc.loc main_arg1) _
  unfold V
  congr 1
  funext a
  apply Fin.ext
  match a with
  | ⟨0, _⟩ => show win0_1.index t (0 : Fin 2) * 32 + 1 * (j 0 : ℕ) = j 0; rw [e0]; omega
  | ⟨1, _⟩ => show win0_1.index t (1 : Fin 2) * 512 + 1 * (j 1 : ℕ) = j 1; rw [e1]; omega

/-- A row of a point's block is a row of the inputs. -/
theorem row_at (t : Fin cfg0.N) (r : Fin 8192) : row (iblk m c 0 t) r = rowOf (argX m c) (8192 * t.val + r) := by
  have ht := point_lt t
  funext k
  refine (rows_at m c t _ _ k).trans ?_
  unfold rowOf
  congr 2
  · exact Fin.ext (by show 8 * t.val + (r : ℕ) / 1024 = (8192 * t.val + (r : ℕ)) / 1024 % 64; omega)
  · exact Fin.ext (by show (r : ℕ) % 1024 = (8192 * t.val + (r : ℕ)) % 1024; omega)

/-- A sum over a block's rows continues a sum over the rows before it. -/
theorem sum_block (f : ℕ → EReal) (n : ℕ) :
    ∑ r ∈ Finset.range (8192 * n), f r + ∑ r : Fin 8192, f (8192 * n + r) = ∑ r ∈ Finset.range (8192 * (n + 1)), f r := by
  rw [Nat.mul_succ, Finset.sum_range_add, Finset.sum_range (n := 8192)]

/-- What a point leaves in the row of counts and in the cell of squares: the sums over all rows up to its block's end. -/
theorem sums_at : ∀ (n : ℕ) (hn : n < cfg0.N), n < 7 →
    (∀ k : Fin 512, (outsAt0 m c n hn).2.2.2.2.2.1 (ix2 0 k) = counts (argW m c) (argX m c) (8192 * (n + 1)) k)
    ∧ (outsAt0 m c n hn).2.2.2.2.2.2 (ix2 0 0) = squares (argW m c) (argX m c) (8192 * (n + 1))
  | 0, hn, _ => by
    obtain ⟨-, -, -, e1, e2⟩ := Point.first m c ⟨0, hn⟩ rfl (by show ¬0 % 8 = 7; decide)
    refine ⟨fun k => ?_, ?_⟩
    · refine (congrFun e1 _).trans ?_
      rw [hist_apply, table_at, counts_zero]
      simp only [row_at]
      exact sum_block (fun r => hot (argW m c) (rowOf (argX m c) r) k) 0
    · refine (congrFun e2 _).trans ?_
      rw [sse_apply, table_at, squares_zero]
      simp only [row_at]
      exact sum_block (fun r => square (argW m c) (rowOf (argX m c) r)) 0
  | n + 1, hn, h7 => by
    have hA : ¬(⟨n + 1, hn⟩ : Fin cfg0.N).val % 8 = 0 := by dsimp only; omega
    have hC : ¬(⟨n + 1, hn⟩ : Fin cfg0.N).val % 8 = 7 := by dsimp only; omega
    obtain ⟨-, -, -, e1, e2⟩ := Point.middle m c ⟨n + 1, hn⟩ hA hC
    obtain ⟨i1, i2⟩ := sums_at n (Nat.lt_of_succ_lt hn) (by omega)
    refine ⟨fun k => ?_, ?_⟩
    · refine (congrFun e1 _).trans ?_
      rw [hist_apply, table_at]
      simp only [row_at]
      refine (congrArg (· + _) (i1 k)).trans ?_
      exact sum_block (fun r => hot (argW m c) (rowOf (argX m c) r) k) (n + 1)
    · refine (congrFun e2 _).trans ?_
      rw [sse_apply, table_at]
      simp only [row_at]
      refine (congrArg (· + _) i2).trans ?_
      exact sum_block (fun r => square (argW m c) (rowOf (argX m c) r)) (n + 1)

/-- The three blocks every point writes. -/
theorem blocks_at (t : Fin cfg0.N) :
    (outsAt0 m c t.val t.isLt).1 = enc (iblk m c 1 t) (iblk m c 0 t)
    ∧ (outsAt0 m c t.val t.isLt).2.1 = quant (iblk m c 1 t) (iblk m c 0 t)
    ∧ (outsAt0 m c t.val t.isLt).2.2.1 = ids (iblk m c 1 t) (iblk m c 0 t) := by
  by_cases h0 : t.val % 8 = 0
  · obtain ⟨a, b, d, -⟩ := Point.first m c t h0 (by omega)
    exact ⟨a, b, d⟩
  · by_cases h1 : t.val % 8 = 7
    · obtain ⟨a, b, d, -⟩ := Point.last m c t h0 h1
      exact ⟨a, b, d⟩
    · obtain ⟨a, b, d, -⟩ := Point.middle m c t h0 h1
      exact ⟨a, b, d⟩

/-- The loss and the perplexity the last point writes. -/
theorem means_at (t : Fin cfg0.N) (h1 : t.val % 8 = 7) :
    (outsAt0 m c t.val t.isLt).2.2.2.1 (ix2 0 0) = lossOf (squares (argW m c) (argX m c) 65536)
    ∧ (outsAt0 m c t.val t.isLt).2.2.2.2.1 (ix2 0 0) = perplexityOf (counts (argW m c) (argX m c) 65536) := by
  have ht : t.val = 7 := by have := point_lt t; omega
  obtain ⟨-, -, -, e1, e2⟩ := Point.last m c t (by omega) h1
  obtain ⟨i1, i2⟩ := sums_at m c (t.val - 1) (Nat.lt_of_le_of_lt (Nat.sub_le _ _) t.isLt) (by omega)
  have hs : sse (argW m c) (iblk m c 0 t) (sseBefore m c t) (ix2 0 0) = squares (argW m c) (argX m c) 65536 := by
    rw [sse_apply]
    simp only [row_at]
    refine (congrArg (· + _) i2).trans ?_
    rw [ht]
    exact sum_block (fun r => square (argW m c) (rowOf (argX m c) r)) 7
  have hh : ∀ k, hist (argW m c) (iblk m c 0 t) (histBefore m c t) (ix2 0 k) = counts (argW m c) (argX m c) 65536 k := fun k => by
    rw [hist_apply]
    simp only [row_at]
    refine (congrArg (· + _) (i1 k)).trans ?_
    rw [ht]
    exact sum_block (fun r => hot (argW m c) (rowOf (argX m c) r) k) 7
  refine ⟨(congrFun e1 _).trans ?_, (congrFun e2 _).trans ?_⟩
  · rw [loss_apply, table_at, hs]; rfl
  · rw [perplexity_apply, table_at]
    simp only [hh]; rfl

end Cert.KernelIdeal.Arrays

end
-- ==== Proof.Final.lean ====
/-
  The run of the kernel, read: its five results as functions of its two arguments.
-/
module

public import proofs.«01_k».proof.Proof.Arrays
public import Idealize.ShloMosaic.Lib.StableHlo.Run

@[expose] public section

set_option maxRecDepth 16384

noncomputable section

namespace Cert.KernelIdeal.Final

open Cert.KernelIdeal Cert.KernelIdeal.Gen Idealize.ShloMosaic Idealize.ShloMosaic.TcCoe Idealize.SL.Sem
open Cert.Rows Cert.Words Cert.KernelIdeal.Block Cert.KernelIdeal.Point Cert.KernelIdeal.Whole Cert.KernelIdeal.Arrays

variable (m : (ℓ : Loc nD τ sig) → Buf (Elt Ideal) ℓ) (ρ : Dev nD → PrngReg) (c : Dev nD)

/-- What a point writes back of the encodings is its block of all of them. -/
theorem flushed2 (t : Fin cfg0.N) : (dats m 0 c).flushed 2 t
    = ((cfg0.win 2).blk t).view.read (Elt Ideal) (encAll (argW m c) (argX m c)) := by
  obtain ⟨e0, e1⟩ := index2 t
  show (cfg0.win 2).cut (grid0.coords t) ((dats m 0 c).after 2 t) = _
  rw [after0_2, (blocks_at m c t).1]
  have ht := point_lt t
  have key : ∀ (r : Fin 8192) (k : Fin 512), enc (iblk m c 1 t) (iblk m c 0 t) (ix2 r k)
      = encAll (argW m c) (argX m c) (((cfg0.win 2).blk t).view.emb (ix2 r k)) := fun r k => by
    have hb : ((cfg0.win 2).blk t).view.emb (ix2 r k) = (ix2 ⟨8192 * t.val + r, by omega⟩ k : S65536x512.Idx) := by
      funext a
      match a with
      | ⟨0, _⟩ => exact Fin.ext (by show win0_2.index t (0 : Fin 2) * 8192 + 1 * (r : ℕ) = 8192 * t.val + r; rw [e0]; omega)
      | ⟨1, _⟩ => exact Fin.ext (by show win0_2.index t (1 : Fin 2) * 512 + 1 * (k : ℕ) = k; rw [e1]; omega)
    rw [hb, enc_apply, table_at, row_at]; rfl
  exact funext fun y => by
    obtain ⟨r, k, rfl⟩ : ∃ (r : Fin 8192) (k : Fin 512), y = ix2 r k := ⟨_, _, eq_ix2 y⟩
    exact key r k

/-- The entries of a block of encodings. -/
theorem mem2 (t : Fin cfg0.N) (i : S65536x512.Idx) : i ∈ ((cfg0.win 2).blk t).view.set
    ↔ ∀ a : Fin 2, win0_2.index t a * S8192x512.size a ≤ (i a).val ∧ (i a).val < win0_2.index t a * S8192x512.size a + S8192x512.size a := by
  show i ∈ ((View.whole main_v0_0).slice (win0_2.rect t)).set ↔ _
  rw [View.set_slice_whole, Rect.mem_set_unit]
  exact Iff.rfl

/-- The encodings after the run. -/
theorem final2 : (dats m 0 c).arrAt 2 cfg0.N = encAll (argW m c) (argX m c) :=
  (dats m 0 c).arrAt_eq_of_cover 2 _ (fun t _ => flushed2 m c t) fun i => by
    have h0 : (i (0 : Fin 2)).val < 65536 := (i (0 : Fin 2)).isLt
    have h1 : (i (1 : Fin 2)).val < 512 := (i (1 : Fin 2)).isLt
    obtain ⟨t, ht⟩ : ∃ t : Fin cfg0.N, t.val = (i (0 : Fin 2)).val / 8192 :=
      ⟨⟨(i (0 : Fin 2)).val / 8192, lt_of_lt_of_eq (by omega) N_0.symm⟩, rfl⟩
    obtain ⟨e0, e1⟩ := index2 t
    refine ⟨t, flush0_2 t, (mem2 t i).mpr fun a => ?_⟩
    match a with
    | ⟨0, _⟩ => show win0_2.index t (0 : Fin 2) * 8192 ≤ (i (0 : Fin 2)).val ∧ (i (0 : Fin 2)).val < win0_2.index t (0 : Fin 2) * 8192 + 8192; omega
    | ⟨1, _⟩ => show win0_2.index t (1 : Fin 2) * 512 ≤ (i (1 : Fin 2)).val ∧ (i (1 : Fin 2)).val < win0_2.index t (1 : Fin 2) * 512 + 512; omega

/-- What a point writes back of the quantised rows is its block of all of them. -/
theorem flushed3 (t : Fin cfg0.N) : (dats m 0 c).flushed 3 t
    = ((cfg0.win 3).blk t).view.read (Elt Ideal) (quantAll (argW m c) (argX m c)) := by
  obtain ⟨e0, e1, e2⟩ := index3 t
  have ht := point_lt t
  show (cfg0.win 3).cut (grid0.coords t) ((dats m 0 c).after 3 t) = _
  rw [after0_3, (blocks_at m c t).2.1]
  have key : ∀ (b : Fin 8) (h : Fin 1024) (k : Fin 32), quant (iblk m c 1 t) (iblk m c 0 t) (ix3 b h k)
      = quantAll (argW m c) (argX m c) (((cfg0.win 3).blk t).view.emb (ix3 b h k)) := fun b h k => by
    have hb : ((cfg0.win 3).blk t).view.emb (ix3 b h k) = (ix3 ⟨8 * t.val + b, by omega⟩ h k : S64x1024x32.Idx) := by
      funext a
      match a with
      | ⟨0, _⟩ => exact Fin.ext (by show win0_3.index t (0 : Fin 3) * 8 + 1 * (b : ℕ) = 8 * t.val + b; rw [e0]; omega)
      | ⟨1, _⟩ => exact Fin.ext (by show win0_3.index t (1 : Fin 3) * 1024 + 1 * (h : ℕ) = h; rw [e1]; omega)
      | ⟨2, _⟩ => exact Fin.ext (by show win0_3.index t (2 : Fin 3) * 32 + 1 * (k : ℕ) = k; rw [e2]; omega)
    rw [hb, quant_at, table_at]
    simp only [rows_at]; rfl
  exact funext fun y => by
    obtain ⟨b, h, k, rfl⟩ : ∃ (b : Fin 8) (h : Fin 1024) (k : Fin 32), y = ix3 b h k := ⟨_, _, _, eq_ix3 y⟩
    exact key b h k

/-- The entries of a block of quantised rows. -/
theorem mem3 (t : Fin cfg0.N) (i : S64x1024x32.Idx) : i ∈ ((cfg0.win 3).blk t).view.set
    ↔ ∀ a : Fin 3, win0_3.index t a * S8x1024x32.size a ≤ (i a).val ∧ (i a).val < win0_3.index t a * S8x1024x32.size a + S8x1024x32.size a := by
  show i ∈ ((View.whole main_v0_1).slice (win0_3.rect t)).set ↔ _
  rw [View.set_slice_whole, Rect.mem_set_unit]
  exact Iff.rfl

/-- The quantised rows after the run. -/
theorem final3 : (dats m 0 c).arrAt 3 cfg0.N = quantAll (argW m c) (argX m c) :=
  (dats m 0 c).arrAt_eq_of_cover 3 _ (fun t _ => flushed3 m c t) fun i => by
    have h0 : (i (0 : Fin 3)).val < 64 := (i (0 : Fin 3)).isLt
    have h1 : (i (1 : Fin 3)).val < 1024 := (i (1 : Fin 3)).isLt
    have h2 : (i (2 : Fin 3)).val < 32 := (i (2 : Fin 3)).isLt
    obtain ⟨t, ht⟩ : ∃ t : Fin cfg0.N, t.val = (i (0 : Fin 3)).val / 8 :=
      ⟨⟨(i (0 : Fin 3)).val / 8, lt_of_lt_of_eq (by omega) N_0.symm⟩, rfl⟩
    obtain ⟨e0, e1, e2⟩ := index3 t
    refine ⟨t, flush0_3 t, (mem3 t i).mpr fun a => ?_⟩
    match a with
    | ⟨0, _⟩ => show win0_3.index t (0 : Fin 3) * 8 ≤ (i (0 : Fin 3)).val ∧ (i (0 : Fin 3)).val < win0_3.index t (0 : Fin 3) * 8 + 8; omega
    | ⟨1, _⟩ => show win0_3.index t (1 : Fin 3) * 1024 ≤ (i (1 : Fin 3)).val ∧ (i (1 : Fin 3)).val < win0_3.index t (1 : Fin 3) * 1024 + 1024; omega
    | ⟨2, _⟩ => show win0_3.index t (2 : Fin 3) * 32 ≤ (i (2 : Fin 3)).val ∧ (i (2 : Fin 3)).val < win0_3.index t (2 : Fin 3) * 32 + 32; omega

/-- What a point writes back of the indices is its block of all of them. -/
theorem flushed4 (t : Fin cfg0.N) : (dats m 0 c).flushed 4 t
    = ((cfg0.win 4).blk t).view.read (Elt Ideal) (idsAll (argW m c) (argX m c)) := by
  obtain ⟨e0, e1⟩ := index4 t
  have ht := point_lt t
  show (cfg0.win 4).cut (grid0.coords t) ((dats m 0 c).after 4 t) = _
  rw [after0_4, (blocks_at m c t).2.2]
  have key : ∀ (b : Fin 8) (h : Fin 1024), ids (iblk m c 1 t) (iblk m c 0 t) (ix2 b h)
      = idsAll (argW m c) (argX m c) (((cfg0.win 4).blk t).view.emb (ix2 b h)) := fun b h => by
    have hb : ((cfg0.win 4).blk t).view.emb (ix2 b h) = (ix2 ⟨8 * t.val + b, by omega⟩ h : S64x1024.Idx) := by
      funext a
      match a with
      | ⟨0, _⟩ => exact Fin.ext (by show win0_4.index t (0 : Fin 2) * 8 + 1 * (b : ℕ) = 8 * t.val + b; rw [e0]; omega)
      | ⟨1, _⟩ => exact Fin.ext (by show win0_4.index t (1 : Fin 2) * 1024 + 1 * (h : ℕ) = h; rw [e1]; omega)
    rw [hb, ids_at, table_at]
    simp only [rows_at]; rfl
  exact funext fun y => by
    obtain ⟨b, h, rfl⟩ : ∃ (b : Fin 8) (h : Fin 1024), y = ix2 b h := ⟨_, _, eq_ix2 y⟩
    exact key b h

/-- The entries of a block of indices. -/
theorem mem4 (t : Fin cfg0.N) (i : S64x1024.Idx) : i ∈ ((cfg0.win 4).blk t).view.set
    ↔ ∀ a : Fin 2, win0_4.index t a * S8x1024.size a ≤ (i a).val ∧ (i a).val < win0_4.index t a * S8x1024.size a + S8x1024.size a := by
  show i ∈ ((View.whole main_v0_2).slice (win0_4.rect t)).set ↔ _
  rw [View.set_slice_whole, Rect.mem_set_unit]
  exact Iff.rfl

/-- The indices after the run. -/
theorem final4 : (dats m 0 c).arrAt 4 cfg0.N = idsAll (argW m c) (argX m c) :=
  (dats m 0 c).arrAt_eq_of_cover 4 _ (fun t _ => flushed4 m c t) fun i => by
    have h0 : (i (0 : Fin 2)).val < 64 := (i (0 : Fin 2)).isLt
    have h1 : (i (1 : Fin 2)).val < 1024 := (i (1 : Fin 2)).isLt
    obtain ⟨t, ht⟩ : ∃ t : Fin cfg0.N, t.val = (i (0 : Fin 2)).val / 8 :=
      ⟨⟨(i (0 : Fin 2)).val / 8, lt_of_lt_of_eq (by omega) N_0.symm⟩, rfl⟩
    obtain ⟨e0, e1⟩ := index4 t
    refine ⟨t, flush0_4 t, (mem4 t i).mpr fun a => ?_⟩
    match a with
    | ⟨0, _⟩ => show win0_4.index t (0 : Fin 2) * 8 ≤ (i (0 : Fin 2)).val ∧ (i (0 : Fin 2)).val < win0_4.index t (0 : Fin 2) * 8 + 8; omega
    | ⟨1, _⟩ => show win0_4.index t (1 : Fin 2) * 1024 ≤ (i (1 : Fin 2)).val ∧ (i (1 : Fin 2)).val < win0_4.index t (1 : Fin 2) * 1024 + 1024; omega

/-- A single cell has one index. -/
theorem cell_idx (y : S1x1.Idx) : y = ix2 0 0 := funext fun a => match a with
  | ⟨0, _⟩ => Subsingleton.elim (α := Fin 1) _ _
  | ⟨1, _⟩ => Subsingleton.elim (α := Fin 1) _ _

/-- The loss, in its cell. -/
def lossAll (w : Vec Ideal S32x512 .f32) (x : Vec Ideal S64x1024x32 .f32) : Vec Ideal S1x1 .f32 := fun _ => lossOf (squares w x 65536)

/-- The perplexity, in its cell. -/
def perplexityAll (w : Vec Ideal S32x512 .f32) (x : Vec Ideal S64x1024x32 .f32) : Vec Ideal S1x1 .f32 :=
  fun _ => perplexityOf (counts w x 65536)

/-- The last point. -/
abbrev end_ : Fin cfg0.N := ⟨7, lt_of_lt_of_eq (by decide) N_0.symm⟩

/-- The loss after the run. -/
theorem final5 : (dats m 0 c).arrAt 5 cfg0.N = lossAll (argW m c) (argX m c) :=
  (dats m 0 c).arrAt_eq_of_cover 5 _ (fun t hf => by
    show (cfg0.win 5).cut (grid0.coords t) ((dats m 0 c).after 5 t) = _
    rw [after0_5]
    have key : ∀ y : S1x1.Idx, (outsAt0 m c t.val t.isLt).2.2.2.1 y
      = lossAll (argW m c) (argX m c) (((cfg0.win 5).blk t).view.emb y) := fun y => by
        rw [cell_idx y]; exact (means_at m c t ((flush0_5 t).mp hf)).1
    exact funext key) fun i => by
    have h0 : (i (0 : Fin 2)).val < 1 := (i (0 : Fin 2)).isLt
    have h1 : (i (1 : Fin 2)).val < 1 := (i (1 : Fin 2)).isLt
    obtain ⟨e0, e1⟩ := index5 end_
    refine ⟨end_, (flush0_5 _).mpr rfl, ?_⟩
    show i ∈ ((View.whole main_v0_3).slice (win0_5.rect end_)).set
    rw [View.set_slice_whole, Rect.mem_set_unit]
    intro a
    match a with
    | ⟨0, _⟩ => show win0_5.index end_ (0 : Fin 2) * 1 ≤ (i (0 : Fin 2)).val ∧ (i (0 : Fin 2)).val < win0_5.index end_ (0 : Fin 2) * 1 + 1; omega
    | ⟨1, _⟩ => show win0_5.index end_ (1 : Fin 2) * 1 ≤ (i (1 : Fin 2)).val ∧ (i (1 : Fin 2)).val < win0_5.index end_ (1 : Fin 2) * 1 + 1; omega

/-- The perplexity after the run. -/
theorem final6 : (dats m 0 c).arrAt 6 cfg0.N = perplexityAll (argW m c) (argX m c) :=
  (dats m 0 c).arrAt_eq_of_cover 6 _ (fun t hf => by
    show (cfg0.win 6).cut (grid0.coords t) ((dats m 0 c).after 6 t) = _
    rw [after0_6]
    have key : ∀ y : S1x1.Idx, (outsAt0 m c t.val t.isLt).2.2.2.2.1 y
      = perplexityAll (argW m c) (argX m c) (((cfg0.win 6).blk t).view.emb y) := fun y => by
        rw [cell_idx y]; exact (means_at m c t ((flush0_6 t).mp hf)).2
    exact funext key) fun i => by
    have h0 : (i (0 : Fin 2)).val < 1 := (i (0 : Fin 2)).isLt
    have h1 : (i (1 : Fin 2)).val < 1 := (i (1 : Fin 2)).isLt
    obtain ⟨e0, e1⟩ := index6 end_
    refine ⟨end_, (flush0_6 _).mpr rfl, ?_⟩
    show i ∈ ((View.whole main_v0_4).slice (win0_6.rect end_)).set
    rw [View.set_slice_whole, Rect.mem_set_unit]
    intro a
    match a with
    | ⟨0, _⟩ => show win0_6.index end_ (0 : Fin 2) * 1 ≤ (i (0 : Fin 2)).val ∧ (i (0 : Fin 2)).val < win0_6.index end_ (0 : Fin 2) * 1 + 1; omega
    | ⟨1, _⟩ => show win0_6.index end_ (1 : Fin 2) * 1 ≤ (i (1 : Fin 2)).val ∧ (i (1 : Fin 2)).val < win0_6.index end_ (1 : Fin 2) * 1 + 1; omega

/-- The trailing reshapes, read: each scalar is the one entry of a cell. -/
theorem tail_loss (V : Valuation τ sig (Elt Ideal)) :
    StableHlo.after (hostOps1 (F := Ideal)) V (Proc.devRef .tc main_v1)
      = (shapeCast S_ (V (Proc.devRef .tc main_v0_3) : Vec Ideal S1x1 .f32) shapeCasts_S1x1_S_ : Vec Ideal S_ .f32) := by
  after_results
  rfl

/-- The same of the perplexity. -/
theorem tail_perplexity (V : Valuation τ sig (Elt Ideal)) :
    StableHlo.after (hostOps1 (F := Ideal)) V (Proc.devRef .tc main_v2)
      = (shapeCast S_ (V (Proc.devRef .tc main_v0_4) : Vec Ideal S1x1 .f32) shapeCasts_S1x1_S_ : Vec Ideal S_ .f32) := by
  after_results
  rfl

/-- The scalar loss after the run. -/
theorem scalar_loss : (Pipeline.afterTail₀ cfgs (dats m) 0 (V0 m) [hostOps1] c main_v1 : Vec Ideal S_ .f32)
    = fun _ => lossOf (squares (argW m c) (argX m c) 65536) := by
  refine (tail_loss _).trans ?_
  have h : Pipeline.withArrays spec0 c (V0 m c) (fun w => (dats m 0 c).arrAt w cfg0.N) (Proc.devRef .tc (Pipeline.arrRef spec0 5))
      = lossAll (argW m c) (argX m c) :=
    (Pipeline.withArrays_arr spec0 (by decide) c (V0 m c) _ 5).trans (final5 m c)
  exact funext fun i => congrFun h _

/-- The scalar perplexity after the run. -/
theorem scalar_perplexity : (Pipeline.afterTail₀ cfgs (dats m) 0 (V0 m) [hostOps1] c main_v2 : Vec Ideal S_ .f32)
    = fun _ => perplexityOf (counts (argW m c) (argX m c) 65536) := by
  refine (tail_perplexity _).trans ?_
  have h : Pipeline.withArrays spec0 c (V0 m c) (fun w => (dats m 0 c).arrAt w cfg0.N) (Proc.devRef .tc (Pipeline.arrRef spec0 6))
      = perplexityAll (argW m c) (argX m c) :=
    (Pipeline.withArrays_arr spec0 (by decide) c (V0 m c) _ 6).trans (final6 m c)
  exact funext fun i => congrFun h _

/-- The run of the kernel: its five results, and its arguments unchanged. -/
theorem run : θ_run defs (onTc (τ := τ) (main (F := Ideal))) ⟨m, fun _ => 0, ρ⟩ fun r => ∀ c : Dev nD,
      r.2.mem ((c : Thread nD τ).loc main_v0_1) = quantAll (argW m c) (argX m c)
      ∧ r.2.mem ((c : Thread nD τ).loc main_v1) = (fun _ => lossOf (squares (argW m c) (argX m c) 65536) : Vec Ideal S_ .f32)
      ∧ r.2.mem ((c : Thread nD τ).loc main_v2) = (fun _ => perplexityOf (counts (argW m c) (argX m c) 65536) : Vec Ideal S_ .f32)
      ∧ r.2.mem ((c : Thread nD τ).loc main_v0_0) = encAll (argW m c) (argX m c)
      ∧ r.2.mem ((c : Thread nD τ).loc main_v0_2) = idsAll (argW m c) (argX m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final3 m c),
      ((h c).2 main_v1 (by decide)).trans (scalar_loss m c),
      ((h c).2 main_v2 (by decide)).trans (scalar_perplexity m c),
      ((h c).1 2).trans (final2 m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefRun.lean ====
/-
  The run of the reference program. Its main function is a straight line of array operations, cut here into six pieces (the
  negated distances, the arg-max, the one-hot rows, the indices and the transposed table, the rows taken from the table, and
  the tail of sums); each result buffer ends at a named function of the argument buffers, and the arguments end unchanged.
-/
module

public import proofs.«01_k».proof.Proof.Gen.ReferenceIdeal
public import Idealize.ShloMosaic.Lib.StableHlo.Run

@[expose] public section

set_option maxRecDepth 200000

noncomputable section

namespace Cert.ReferenceIdeal.Ref

open Cert.ReferenceIdeal Cert.ReferenceIdeal.Gen
open Idealize.ShloMosaic Idealize.ShloMosaic.TcCoe Idealize.ShloMosaic.StableHlo Idealize.SL.Sem

variable {F : FTy → Type} [FloatOps F]

/-- The negated squared distances of the flattened rows to the columns of the table. -/
def negDist (x : FVec F S64x1024x32 .f32) (w : FVec F S32x512 .f32) : FVec F S65536x512 .f32 :=
  have v0 : FVec F S65536x32 .f32 := shapeCast S65536x32 x shapeCasts_S64x1024x32_S65536x32
  have v2 : FVec F S65536 .f32 :=
    Host.reduceAdd (mulf v0 v0) (constant S_ .f32 0x00000000#32) reducesTo_S65536x32_S65536_d1 h_S_
  have v3 : FVec F S65536x1 .f32 := broadcastInDim S65536x1 ![0] bcast_S65536_S65536x1_0 v2
  have v4 : FVec F S65536x512 .f32 := Host.dotGeneral dot_S65536x32_S32x512_S65536x512_1_0_0_1_n_n none v0 w
  have v5 : FVec F S65536x512 .f32 := broadcastInDim S65536x512 ![] bcast_S_S65536x512 (constant S_ .f32 0x40000000#32)
  have v7 : FVec F S65536x512 .f32 := broadcastInDim S65536x512 ![0, 1] bcast_S65536x1_S65536x512_0_1 v3
  have v10 : FVec F S512 .f32 :=
    Host.reduceAdd (mulf w w) (constant S_ .f32 0x00000000#32) reducesTo_S32x512_S512_d0 h_S_
  have v11 : FVec F S1x512 .f32 := broadcastInDim S1x512 ![1] bcast_S512_S1x512_1 v10
  have v12 : FVec F S65536x512 .f32 := broadcastInDim S65536x512 ![0, 1] bcast_S1x512_S65536x512_0_1 v11
  Host.negf (addf (subf v7 (mulf v5 v4)) v12)

/-- The index of each row's greatest entry. -/
def argMax (d : FVec F S65536x512 .f32) : IVec S65536 32 := fun j =>
  (Host.argReduce reducer_argmax_f32_i32 d (iotaInDim S65536x512 32 1) (constant S_ .f32 0xFF800000#32) (constantI S_ 32 0#32)
    reducesTo_S65536x512_S65536_d1 h_S_ j).2

/-- The one-hot rows of a vector of indices. -/
def oneHot (i : IVec S65536 32) : FVec F S65536x512 .f32 :=
  have v0 : IVec S65536x1 32 := broadcastInDim S65536x1 ![0] bcast_S65536_S65536x1_0 i
  have v1 : IVec S1x512 32 := iotaInDim S1x512 32 1
  uitofp .f32 (cmpi .eq (broadcastInDim S65536x512 ![0, 1] bcast_S65536x1_S65536x512_0_1 v0)
    (broadcastInDim S65536x512 ![0, 1] bcast_S1x512_S65536x512_0_1 v1))

/-- The vector of indices as a matrix. -/
def indices (i : IVec S65536 32) : IVec S64x1024 32 := shapeCast S64x1024 i shapeCasts_S65536_S64x1024

/-- The table's columns as rows. -/
def table (w : FVec F S32x512 .f32) : FVec F S512x32 .f32 := transpose S512x32 [1, 0] w transposes_S32x512_S512x32_1_0

/-- The indices a row is taken at: a negative one counts from the end. -/
def takeIndex (i : IVec S64x1024 32) : IVec S64x1024x1 32 :=
  have v0 : IVec S64x1024 32 := broadcastInDim S64x1024 ![] bcast_S_S64x1024 (constantI S_ 32 0#32)
  have v2 : IVec S64x1024 32 := broadcastInDim S64x1024 ![] bcast_S_S64x1024 (constantI S_ 32 512#32)
  have v4 : IVec S64x1024 32 := select (cmpi .slt i v0) (addi i v2) i
  broadcastInDim S64x1024x1 ![0, 1] bcast_S64x1024_S64x1024x1_0_1 v4

/-- Which of those indices lie in the table. -/
def takeInside (v5 : IVec S64x1024x1 32) : IVec S64x1024 1 :=
  have v6 : IVec S64x1024x1 32 := broadcastInDim S64x1024x1 ![] bcast_S_S64x1024x1 (constantI S_ 32 0#32)
  have v8 : IVec S1x1x1 32 := broadcastInDim S1x1x1 ![2] bcast_S1_S1x1x1_2 (constantI S1 32 511#32)
  have v9 : IVec S64x1024x1 32 := broadcastInDim S64x1024x1 ![0, 1, 2] bcast_S1x1x1_S64x1024x1_0_1_2 v8
  Host.reduce IntOp.andi (andi (cmpi .sge v5 v6) (cmpi .sle v5 v9)) (constantI S_ 1 1#1) reducesTo_S64x1024x1_S64x1024_d2 h_S_

/-- The table's rows taken at a matrix of indices. -/
def take (t : FVec F S512x32 .f32) (i : IVec S64x1024 32) : FVec F S64x1024x32 .f32 :=
  have v13 : FVec F S64x1024x32 .f32 := Host.gather gather_S512x32_S64x1024x1_S64x1024x32_2_0_n_n_0_2_132 t (takeIndex i)
  have v14 : IVec S64x1024x32 1 := broadcastInDim S64x1024x32 ![0, 1] bcast_S64x1024_S64x1024x32_0_1 (takeInside (takeIndex i))
  have v15 : FVec F S64x1024x32 .f32 := broadcastInDim S64x1024x32 ![] bcast_S_S64x1024x32 (constant S_ .f32 0x7FC00000#32)
  select v14 v13 v15

/-- The mean of the squared differences. -/
def meanSq (q x : FVec F S64x1024x32 .f32) : FVec F S_ .f32 :=
  Host.divf (Host.reduceAdd (mulf (subf q x) (subf q x)) (constant S_ .f32 0x00000000#32) reducesTo_S64x1024x32_S_d0_1_2 h_S_)
    (constant S_ .f32 0x4A000000#32)

/-- The loss: the mean and a quarter of it. -/
def loss (q x : FVec F S64x1024x32 .f32) : FVec F S_ .f32 :=
  addf (meanSq q x) (mulf (constant S_ .f32 0x3E800000#32) (meanSq q x))

/-- The quantised array, written as the input and the difference. -/
def straight (q x : FVec F S64x1024x32 .f32) : FVec F S64x1024x32 .f32 := addf x (subf q x)

/-- The mean of the one-hot rows. -/
def meanRows (e : FVec F S65536x512 .f32) : FVec F S512 .f32 :=
  Host.divf (Host.reduceAdd e (constant S_ .f32 0x00000000#32) reducesTo_S65536x512_S512_d0 h_S_)
    (broadcastInDim S512 ![] bcast_S_S512 (constant S_ .f32 0x47800000#32))

/-- The perplexity of the mean of the one-hot rows. -/
def perplexity (e : FVec F S65536x512 .f32) : FVec F S_ .f32 :=
  have v36 : FVec F S512 .f32 := addf (meanRows e) (broadcastInDim S512 ![] bcast_S_S512 (constant S_ .f32 0x2EDBE6FF#32))
  Host.exp (Host.negf (Host.reduceAdd (mulf (meanRows e) (Host.log v36)) (constant S_ .f32 0x00000000#32) reducesTo_S512_S_d0 h_S_))

/-! ### The operations, piece by piece -/

/-- The distances. -/
abbrev opsDist : List (HloOp τ sig (Elt F)) :=
  [ reshape main_arg0 main_v0 (rfl : (.f32 : EltTy) = .f32) shapeCasts_S64x1024x32_S65536x32,
    binary main_v0 main_v0 main_v1 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v1 main_cst main_v2 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v2 main_v3 (broadcastInDim S65536x1 ![0] bcast_S65536_S65536x1_0 : (⟨S65536, .f32⟩ : BufTy).Contents (Elt F) → (⟨S65536x1, .f32⟩ : BufTy).Contents (Elt F)),
    binary main_v0 main_arg1 main_v4 ((fun l r => Host.dotGeneral dot_S65536x32_S32x512_S65536x512_1_0_0_1_n_n none l r) : (⟨S65536x32, .f32⟩ : BufTy).Contents (Elt F) → (⟨S32x512, .f32⟩ : BufTy).Contents (Elt F) → (⟨S65536x512, .f32⟩ : BufTy).Contents (Elt F)),
    nullary main_cst_0 (constant S_ .f32 0x40000000#32),
    unary main_cst_0 main_v5 (broadcastInDim S65536x512 ![] bcast_S_S65536x512 : (⟨S_, .f32⟩ : BufTy).Contents (Elt F) → (⟨S65536x512, .f32⟩ : BufTy).Contents (Elt F)),
    binary main_v5 main_v4 main_v6 (mulf : (⟨S65536x512, .f32⟩ : BufTy).Contents (Elt F) → (⟨S65536x512, .f32⟩ : BufTy).Contents (Elt F) → (⟨S65536x512, .f32⟩ : BufTy).Contents (Elt F)),
    unary main_v3 main_v7 (broadcastInDim S65536x512 ![0, 1] bcast_S65536x1_S65536x512_0_1 : (⟨S65536x1, .f32⟩ : BufTy).Contents (Elt F) → (⟨S65536x512, .f32⟩ : BufTy).Contents (Elt F)),
    binary main_v7 main_v6 main_v8 (subf : (⟨S65536x512, .f32⟩ : BufTy).Contents (Elt F) → (⟨S65536x512, .f32⟩ : BufTy).Contents (Elt F) → (⟨S65536x512, .f32⟩ : BufTy).Contents (Elt F)),
    binary main_arg1 main_arg1 main_v9 (mulf : (⟨S32x512, .f32⟩ : BufTy).Contents (Elt F) → (⟨S32x512, .f32⟩ : BufTy).Contents (Elt F) → (⟨S32x512, .f32⟩ : BufTy).Contents (Elt F)),
    nullary main_cst_1 (constant S_ .f32 0x00000000#32),
    binary main_v9 main_cst_1 main_v10 ((fun x v => Host.reduceAdd x v reducesTo_S32x512_S512_d0 h_S_) : (⟨S32x512, .f32⟩ : BufTy).Contents (Elt F) → (⟨S_, .f32⟩ : BufTy).Contents (Elt F) → (⟨S512, .f32⟩ : BufTy).Contents (Elt F)),
    unary main_v10 main_v11 (broadcastInDim S1x512 ![1] bcast_S512_S1x512_1 : (⟨S512, .f32⟩ : BufTy).Contents (Elt F) → (⟨S1x512, .f32⟩ : BufTy).Contents (Elt F)),
    unary main_v11 main_v12 (broadcastInDim S65536x512 ![0, 1] bcast_S1x512_S65536x512_0_1 : (⟨S1x512, .f32⟩ : BufTy).Contents (Elt F) → (⟨S65536x512, .f32⟩ : BufTy).Contents (Elt F)),
    binary main_v8 main_v12 main_v13 (addf : (⟨S65536x512, .f32⟩ : BufTy).Contents (Elt F) → (⟨S65536x512, .f32⟩ : BufTy).Contents (Elt F) → (⟨S65536x512, .f32⟩ : BufTy).Contents (Elt F)),
    unary main_v13 main_v14 (Host.negf : (⟨S65536x512, .f32⟩ : BufTy).Contents (Elt F) → (⟨S65536x512, .f32⟩ : BufTy).Contents (Elt F)) ]

/-- The arg-max. -/
abbrev opsArgmax : List (HloOp τ sig (Elt F)) :=
  [ nullary main_call0_v0 (iotaInDim S65536x512 32 1),
    nullary main_call0_cst (constant S_ .f32 0xFF800000#32),
    nullary main_call0_c (constantI S_ 32 0#32),
    quaternary main_v14 main_call0_v0 main_call0_cst main_call0_c main_call0_v1_0 (fun x y u v j => (Host.argReduce reducer_argmax_f32_i32 x y u v reducesTo_S65536x512_S65536_d1 h_S_ j).1),
    quaternary main_v14 main_call0_v0 main_call0_cst main_call0_c main_v15 (fun x y u v j => (Host.argReduce reducer_argmax_f32_i32 x y u v reducesTo_S65536x512_S65536_d1 h_S_ j).2) ]

/-- The one-hot rows. -/
abbrev opsOneHot : List (HloOp τ sig (Elt F)) :=
  [ unary main_v15 main_call1_v0 (broadcastInDim S65536x1 ![0] bcast_S65536_S65536x1_0),
    nullary main_call1_v1 (iotaInDim S1x512 32 1),
    unary main_call1_v0 main_call1_v2 (broadcastInDim S65536x512 ![0, 1] bcast_S65536x1_S65536x512_0_1),
    unary main_call1_v1 main_call1_v3 (broadcastInDim S65536x512 ![0, 1] bcast_S1x512_S65536x512_0_1),
    binary main_call1_v2 main_call1_v3 main_call1_v4 (cmpi .eq),
    unary main_call1_v4 main_v16 (uitofp .f32) ]

/-- The indices as a matrix and the table transposed. -/
abbrev opsIndex : List (HloOp τ sig (Elt F)) :=
  [ reshape main_v15 main_v17 (rfl : (.i32 : EltTy) = .i32) shapeCasts_S65536_S64x1024,
    unary main_arg1 main_v18 ((transpose S512x32 [1, 0] · transposes_S32x512_S512x32_1_0) : (⟨S32x512, .f32⟩ : BufTy).Contents (Elt F) → (⟨S512x32, .f32⟩ : BufTy).Contents (Elt F)) ]

/-- The rows taken from the table. -/
abbrev opsTake : List (HloOp τ sig (Elt F)) :=
  [ nullary main_call2_c (constantI S_ 32 0#32),
    unary main_call2_c main_call2_v0 (broadcastInDim S64x1024 ![] bcast_S_S64x1024),
    binary main_v17 main_call2_v0 main_call2_v1 (cmpi .slt),
    nullary main_call2_c_0 (constantI S_ 32 512#32),
    unary main_call2_c_0 main_call2_v2 (broadcastInDim S64x1024 ![] bcast_S_S64x1024),
    binary main_v17 main_call2_v2 main_call2_v3 addi,
    ternary main_call2_v1 main_call2_v3 main_v17 main_call2_v4 select,
    unary main_call2_v4 main_call2_v5 (broadcastInDim S64x1024x1 ![0, 1] bcast_S64x1024_S64x1024x1_0_1),
    nullary main_call2_c_1 (constantI S1 32 511#32),
    nullary main_call2_c_2 (constantI S_ 32 0#32),
    unary main_call2_c_2 main_call2_v6 (broadcastInDim S64x1024x1 ![] bcast_S_S64x1024x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S64x1024x1 ![0, 1, 2] bcast_S1x1x1_S64x1024x1_0_1_2),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S64x1024x1_S64x1024_d2 h_S_),
    binary main_v18 main_call2_v5 main_call2_v13 (fun x i => Host.gather gather_S512x32_S64x1024x1_S64x1024x32_2_0_n_n_0_2_132 x i),
    unary main_call2_v12 main_call2_v14 (broadcastInDim S64x1024x32 ![0, 1] bcast_S64x1024_S64x1024x32_0_1),
    nullary main_call2_cst (constant S_ .f32 0x7FC00000#32),
    unary main_call2_cst main_call2_v15 (broadcastInDim S64x1024x32 ![] bcast_S_S64x1024x32),
    ternary main_call2_v14 main_call2_v13 main_call2_v15 main_v19 select ]

/-- The tail: the results from the rows taken and the one-hot rows. -/
abbrev opsTail : List (HloOp τ sig (Elt F)) :=
  [ binary main_v19 main_arg0 main_v20 (subf : (⟨S64x1024x32, .f32⟩ : BufTy).Contents (Elt F) → (⟨S64x1024x32, .f32⟩ : BufTy).Contents (Elt F) → (⟨S64x1024x32, .f32⟩ : BufTy).Contents (Elt F)),
    binary main_v20 main_v20 main_v21 (mulf : (⟨S64x1024x32, .f32⟩ : BufTy).Contents (Elt F) → (⟨S64x1024x32, .f32⟩ : BufTy).Contents (Elt F) → (⟨S64x1024x32, .f32⟩ : BufTy).Contents (Elt F)),
    nullary main_cst_2 (constant S_ .f32 0x00000000#32),
    binary main_v21 main_cst_2 main_v22 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_3 (constant S_ .f32 0x4A000000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_arg0 main_v24 (subf : (⟨S64x1024x32, .f32⟩ : BufTy).Contents (Elt F) → (⟨S64x1024x32, .f32⟩ : BufTy).Contents (Elt F) → (⟨S64x1024x32, .f32⟩ : BufTy).Contents (Elt F)),
    binary main_v24 main_v24 main_v25 (mulf : (⟨S64x1024x32, .f32⟩ : BufTy).Contents (Elt F) → (⟨S64x1024x32, .f32⟩ : BufTy).Contents (Elt F) → (⟨S64x1024x32, .f32⟩ : BufTy).Contents (Elt F)),
    nullary main_cst_4 (constant S_ .f32 0x00000000#32),
    binary main_v25 main_cst_4 main_v26 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_5 (constant S_ .f32 0x4A000000#32),
    binary main_v26 main_cst_5 main_v27 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v23 main_v28 (mulf : (⟨S_, .f32⟩ : BufTy).Contents (Elt F) → (⟨S_, .f32⟩ : BufTy).Contents (Elt F) → (⟨S_, .f32⟩ : BufTy).Contents (Elt F)),
    binary main_v27 main_v28 main_v29 (addf : (⟨S_, .f32⟩ : BufTy).Contents (Elt F) → (⟨S_, .f32⟩ : BufTy).Contents (Elt F) → (⟨S_, .f32⟩ : BufTy).Contents (Elt F)),
    binary main_v19 main_arg0 main_v30 (subf : (⟨S64x1024x32, .f32⟩ : BufTy).Contents (Elt F) → (⟨S64x1024x32, .f32⟩ : BufTy).Contents (Elt F) → (⟨S64x1024x32, .f32⟩ : BufTy).Contents (Elt F)),
    binary main_arg0 main_v30 main_v31 (addf : (⟨S64x1024x32, .f32⟩ : BufTy).Contents (Elt F) → (⟨S64x1024x32, .f32⟩ : BufTy).Contents (Elt F) → (⟨S64x1024x32, .f32⟩ : BufTy).Contents (Elt F)),
    nullary main_cst_7 (constant S_ .f32 0x00000000#32),
    binary main_v16 main_cst_7 main_v32 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    nullary main_cst_8 (constant S_ .f32 0x47800000#32),
    unary main_cst_8 main_v33 (broadcastInDim S512 ![] bcast_S_S512 : (⟨S_, .f32⟩ : BufTy).Contents (Elt F) → (⟨S512, .f32⟩ : BufTy).Contents (Elt F)),
    binary main_v32 main_v33 main_v34 (Host.divf : (⟨S512, .f32⟩ : BufTy).Contents (Elt F) → (⟨S512, .f32⟩ : BufTy).Contents (Elt F) → (⟨S512, .f32⟩ : BufTy).Contents (Elt F)),
    nullary main_cst_9 (constant S_ .f32 0x2EDBE6FF#32),
    unary main_cst_9 main_v35 (broadcastInDim S512 ![] bcast_S_S512 : (⟨S_, .f32⟩ : BufTy).Contents (Elt F) → (⟨S512, .f32⟩ : BufTy).Contents (Elt F)),
    binary main_v34 main_v35 main_v36 (addf : (⟨S512, .f32⟩ : BufTy).Contents (Elt F) → (⟨S512, .f32⟩ : BufTy).Contents (Elt F) → (⟨S512, .f32⟩ : BufTy).Contents (Elt F)),
    unary main_v36 main_v37 (Host.log : (⟨S512, .f32⟩ : BufTy).Contents (Elt F) → (⟨S512, .f32⟩ : BufTy).Contents (Elt F)),
    binary main_v34 main_v37 main_v38 (mulf : (⟨S512, .f32⟩ : BufTy).Contents (Elt F) → (⟨S512, .f32⟩ : BufTy).Contents (Elt F) → (⟨S512, .f32⟩ : BufTy).Contents (Elt F)),
    nullary main_cst_10 (constant S_ .f32 0x00000000#32),
    binary main_v38 main_cst_10 main_v39 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)),
    unary main_v40 main_v41 (Host.exp : (⟨S_, .f32⟩ : BufTy).Contents (Elt F) → (⟨S_, .f32⟩ : BufTy).Contents (Elt F)) ]

/-- All operations, in order. -/
abbrev ops : List (HloOp τ sig (Elt F)) := opsDist ++ (opsArgmax ++ (opsOneHot ++ (opsIndex ++ (opsTake ++ opsTail))))

/-- The main function is that straight line. -/
theorem main_eq (c : Dev nD) : main (F := F) c = seq ops := rfl

section Pieces

variable (V : Valuation τ sig (Elt F))

/-- The first piece leaves the negated distances. -/
theorem dist_v14 : after opsDist V (main_v14 : DevRef τ sig) = negDist (V (main_arg0 : DevRef τ sig)) (V (main_arg1 : DevRef τ sig)) := by
  after_results
  rfl

/-- The second leaves the arg-max. -/
theorem argmax_v15 : after opsArgmax V (main_v15 : DevRef τ sig) = argMax (F := F) (V (main_v14 : DevRef τ sig)) := by
  after_results
  rfl

/-- The third leaves the one-hot rows. -/
theorem oneHot_v16 : after opsOneHot V (main_v16 : DevRef τ sig) = oneHot (F := F) (V (main_v15 : DevRef τ sig)) := by
  after_results
  rfl

/-- The fourth leaves the matrix of indices, -/
theorem index_v17 : after opsIndex V (main_v17 : DevRef τ sig) = indices (V (main_v15 : DevRef τ sig)) := by
  after_results
  rfl

/-- and the transposed table. -/
theorem index_v18 : after opsIndex V (main_v18 : DevRef τ sig) = table (F := F) (V (main_arg1 : DevRef τ sig)) := by
  after_results
  rfl

/-- The fifth leaves the rows taken. -/
theorem take_v19 : after opsTake V (main_v19 : DevRef τ sig)
    = take (F := F) (V (main_v18 : DevRef τ sig)) (V (main_v17 : DevRef τ sig)) := by
  after_results
  rfl

/-- The tail leaves the quantised result, -/
theorem tail_v31 : after opsTail V (main_v31 : DevRef τ sig)
    = straight (F := F) (V (main_v19 : DevRef τ sig)) (V (main_arg0 : DevRef τ sig)) := by
  after_results
  rfl

/-- the loss, -/
theorem tail_v29 : after opsTail V (main_v29 : DevRef τ sig)
    = loss (F := F) (V (main_v19 : DevRef τ sig)) (V (main_arg0 : DevRef τ sig)) := by
  after_results
  rfl

/-- and the perplexity. -/
theorem tail_v41 : after opsTail V (main_v41 : DevRef τ sig) = perplexity (F := F) (V (main_v16 : DevRef τ sig)) := by
  after_results
  rfl

/-- The first piece does not write the inputs. -/
theorem keepDist_arg0 : after opsDist V (main_arg0 : DevRef τ sig) = V (main_arg0 : DevRef τ sig) := by
  after_results

/-- The first piece does not write the table. -/
theorem keepDist_arg1 : after opsDist V (main_arg1 : DevRef τ sig) = V (main_arg1 : DevRef τ sig) := by
  after_results

/-- The second piece does not write the inputs. -/
theorem keepArgmax_arg0 : after opsArgmax V (main_arg0 : DevRef τ sig) = V (main_arg0 : DevRef τ sig) := by
  after_results

/-- The second piece does not write the table. -/
theorem keepArgmax_arg1 : after opsArgmax V (main_arg1 : DevRef τ sig) = V (main_arg1 : DevRef τ sig) := by
  after_results

/-- The third piece does not write the inputs. -/
theorem keepOneHot_arg0 : after opsOneHot V (main_arg0 : DevRef τ sig) = V (main_arg0 : DevRef τ sig) := by
  after_results

/-- The third piece does not write the table. -/
theorem keepOneHot_arg1 : after opsOneHot V (main_arg1 : DevRef τ sig) = V (main_arg1 : DevRef τ sig) := by
  after_results

/-- The third piece does not write the arg-max. -/
theorem keepOneHot_v15 : after opsOneHot V (main_v15 : DevRef τ sig) = V (main_v15 : DevRef τ sig) := by
  after_results

/-- The fourth piece does not write the inputs. -/
theorem keepIndex_arg0 : after opsIndex V (main_arg0 : DevRef τ sig) = V (main_arg0 : DevRef τ sig) := by
  after_results

/-- The fourth piece does not write the table. -/
theorem keepIndex_arg1 : after opsIndex V (main_arg1 : DevRef τ sig) = V (main_arg1 : DevRef τ sig) := by
  after_results

/-- The fourth piece does not write the arg-max. -/
theorem keepIndex_v15 : after opsIndex V (main_v15 : DevRef τ sig) = V (main_v15 : DevRef τ sig) := by
  after_results

/-- The fourth piece does not write the one-hot rows. -/
theorem keepIndex_v16 : after opsIndex V (main_v16 : DevRef τ sig) = V (main_v16 : DevRef τ sig) := by
  after_results

/-- The fifth piece does not write the inputs. -/
theorem keepTake_arg0 : after opsTake V (main_arg0 : DevRef τ sig) = V (main_arg0 : DevRef τ sig) := by
  after_results

/-- The fifth piece does not write the table. -/
theorem keepTake_arg1 : after opsTake V (main_arg1 : DevRef τ sig) = V (main_arg1 : DevRef τ sig) := by
  after_results

/-- The fifth piece does not write the one-hot rows. -/
theorem keepTake_v16 : after opsTake V (main_v16 : DevRef τ sig) = V (main_v16 : DevRef τ sig) := by
  after_results

/-- The fifth piece does not write the indices. -/
theorem keepTake_v17 : after opsTake V (main_v17 : DevRef τ sig) = V (main_v17 : DevRef τ sig) := by
  after_results

/-- The last piece does not write the inputs. -/
theorem keepTail_arg0 : after opsTail V (main_arg0 : DevRef τ sig) = V (main_arg0 : DevRef τ sig) := by
  after_results

/-- The last piece does not write the table. -/
theorem keepTail_arg1 : after opsTail V (main_arg1 : DevRef τ sig) = V (main_arg1 : DevRef τ sig) := by
  after_results

/-- The last piece does not write the one-hot rows. -/
theorem keepTail_v16 : after opsTail V (main_v16 : DevRef τ sig) = V (main_v16 : DevRef τ sig) := by
  after_results

/-- The last piece does not write the indices. -/
theorem keepTail_v17 : after opsTail V (main_v17 : DevRef τ sig) = V (main_v17 : DevRef τ sig) := by
  after_results

end Pieces

/-- The operations of two lists, one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The index of the nearest column, per flattened row. -/
def nearest (x : FVec F S64x1024x32 .f32) (w : FVec F S32x512 .f32) : IVec S65536 32 := argMax (negDist x w)

/-- The nearest columns, per row. -/
def quantized (x : FVec F S64x1024x32 .f32) (w : FVec F S32x512 .f32) : FVec F S64x1024x32 .f32 :=
  take (table w) (indices (nearest x w))

section Whole

variable (V : Valuation τ sig (Elt F))

/-- The arg-max, from the arguments. -/
theorem ops_v15 : after (opsArgmax) (after opsDist V) (main_v15 : DevRef τ sig)
    = nearest (V (main_arg0 : DevRef τ sig)) (V (main_arg1 : DevRef τ sig)) := by
  rw [argmax_v15, dist_v14]; rfl

/-- The one-hot rows, from the arguments. -/
theorem ops_v16 : after ops V (main_v16 : DevRef τ sig)
    = oneHot (nearest (V (main_arg0 : DevRef τ sig)) (V (main_arg1 : DevRef τ sig))) := by
  rw [after_two, after_two, after_two, after_two, after_two, keepTail_v16, keepTake_v16, keepIndex_v16, oneHot_v16, ops_v15]

/-- The indices, from the arguments. -/
theorem ops_v17 : after ops V (main_v17 : DevRef τ sig)
    = indices (nearest (V (main_arg0 : DevRef τ sig)) (V (main_arg1 : DevRef τ sig))) := by
  rw [after_two, after_two, after_two, after_two, after_two, keepTail_v17, keepTake_v17, index_v17, keepOneHot_v15, ops_v15]

/-- The rows taken, from the arguments. -/
theorem ops_v19 : after opsTake (after opsIndex (after opsOneHot (after opsArgmax (after opsDist V)))) (main_v19 : DevRef τ sig)
    = quantized (V (main_arg0 : DevRef τ sig)) (V (main_arg1 : DevRef τ sig)) := by
  rw [take_v19, index_v18, index_v17, keepOneHot_v15, ops_v15, keepOneHot_arg1, keepArgmax_arg1, keepDist_arg1]; rfl

/-- The quantised result, from the arguments. -/
theorem ops_v31 : after ops V (main_v31 : DevRef τ sig)
    = straight (quantized (V (main_arg0 : DevRef τ sig)) (V (main_arg1 : DevRef τ sig))) (V (main_arg0 : DevRef τ sig)) := by
  rw [after_two, after_two, after_two, after_two, after_two, tail_v31, ops_v19, keepTake_arg0, keepIndex_arg0, keepOneHot_arg0,
    keepArgmax_arg0, keepDist_arg0]

/-- The loss, from the arguments. -/
theorem ops_v29 : after ops V (main_v29 : DevRef τ sig)
    = loss (quantized (V (main_arg0 : DevRef τ sig)) (V (main_arg1 : DevRef τ sig))) (V (main_arg0 : DevRef τ sig)) := by
  rw [after_two, after_two, after_two, after_two, after_two, tail_v29, ops_v19, keepTake_arg0, keepIndex_arg0, keepOneHot_arg0,
    keepArgmax_arg0, keepDist_arg0]

/-- The perplexity, from the arguments. -/
theorem ops_v41 : after ops V (main_v41 : DevRef τ sig)
    = perplexity (oneHot (F := F) (nearest (V (main_arg0 : DevRef τ sig)) (V (main_arg1 : DevRef τ sig)))) := by
  rw [after_two, after_two, after_two, after_two, after_two, tail_v41, keepTake_v16, keepIndex_v16, oneHot_v16, ops_v15]

/-- The inputs are not written. -/
theorem ops_arg0 : after ops V (main_arg0 : DevRef τ sig) = V (main_arg0 : DevRef τ sig) := by
  rw [after_two, after_two, after_two, after_two, after_two, keepTail_arg0, keepTake_arg0, keepIndex_arg0, keepOneHot_arg0,
    keepArgmax_arg0, keepDist_arg0]

/-- The table is not written. -/
theorem ops_arg1 : after ops V (main_arg1 : DevRef τ sig) = V (main_arg1 : DevRef τ sig) := by
  rw [after_two, after_two, after_two, after_two, after_two, keepTail_arg1, keepTake_arg1, keepIndex_arg1, keepOneHot_arg1,
    keepArgmax_arg1, keepDist_arg1]

end Whole

/-- The program has no scoped buffers. -/
theorem no_scoped_refs : (Finset.univ.filter fun b : Ref sig .tc => b.isScoped) = ∅ := by decide +kernel

/-- The program has no scoped semaphores. -/
theorem no_scoped_sems : (Finset.univ.filter fun sm : SemLoc sig => sm.isScoped .tc) = ∅ := by decide +kernel

/-- Every operation is on the core's own buffers. -/
theorem ops_sub : (ops : List (HloOp τ sig (Elt F))).Forall fun op => op.bufs ⊆ tcRefs τ sig := by
  simp only [ops, opsDist, opsArgmax, opsOneHot, opsIndex, opsTake, opsTail, List.cons_append, List.nil_append, List.forall_cons,
    List.Forall, nullary_bufs_sub, unary_bufs_sub, binary_bufs_sub, ternary_bufs_sub, quaternary_bufs_sub, reshape_bufs_sub,
    and_self]

/-- The reference runs; its five results are the named functions of its arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = straight (quantized (m ((c.tc : Thread nD τ).loc main_arg0)) (m ((c.tc : Thread nD τ).loc main_arg1)))
              (m ((c.tc : Thread nD τ).loc main_arg0))
        ∧ r.2.mem ((c.tc : Thread nD τ).loc main_v29)
          = loss (quantized (m ((c.tc : Thread nD τ).loc main_arg0)) (m ((c.tc : Thread nD τ).loc main_arg1)))
              (m ((c.tc : Thread nD τ).loc main_arg0))
        ∧ r.2.mem ((c.tc : Thread nD τ).loc main_v41)
          = perplexity (oneHot (F := F) (nearest (m ((c.tc : Thread nD τ).loc main_arg0)) (m ((c.tc : Thread nD τ).loc main_arg1))))
        ∧ r.2.mem ((c.tc : Thread nD τ).loc main_v16)
          = oneHot (nearest (m ((c.tc : Thread nD τ).loc main_arg0)) (m ((c.tc : Thread nD τ).loc main_arg1)))
        ∧ r.2.mem ((c.tc : Thread nD τ).loc main_v17)
          = indices (nearest (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v31).trans (ops_v31 _), (h c main_v29).trans (ops_v29 _),
      (h c main_v41).trans (ops_v41 _), (h c main_v16).trans (ops_v16 _), (h c main_v17).trans (ops_v17 _),
      (h c main_arg0).trans (ops_arg0 _), (h c main_arg1).trans (ops_arg1 _)⟩)
    (run_seq no_scoped_refs no_scoped_sems defs main (fun _ => ops) main_eq (fun _ => ops_sub) m ρ)

end Cert.ReferenceIdeal.Ref

end
-- ==== Proof.ArgMax.lean ====
/-
  The reference's arg-max along a row. Its body keeps the greater of two values, and of two equal values the one at the smaller
  index; folded over a row in whatever order, it ends at the first index of the greatest value.
-/
module

public import proofs.«01_k».proof.Proof.RefRun
public import proofs.«01_k».proof.Proof.Rows
public import proofs.«01_k».proof.Proof.Words
public import Idealize.ShloMosaic.Lib.Pointwise

@[expose] public section

set_option maxRecDepth 16384

noncomputable section

namespace Cert.ReferenceIdeal.ArgMax

open Cert.ReferenceIdeal Cert.ReferenceIdeal.Gen Idealize.ShloMosaic
open Cert.Rows Cert.Words Cert.ReferenceIdeal.Ref

/-- A value of a row with its index. -/
def pair (v : Fin 512 → EReal) (k : Fin 512) : Ideal .f32 × BitVec 32 := (v k, BitVec.ofNat 32 (k : ℕ))

/-- Index `k` is taken before index `j`, or is `j`. -/
def Beats (v : Fin 512 → EReal) (k j : Fin 512) : Prop := v j < v k ∨ v j = v k ∧ k ≤ j

/-- An index is taken before itself. -/
theorem Beats.refl (v : Fin 512 → EReal) (k : Fin 512) : Beats v k k := .inr ⟨rfl, le_rfl⟩

/-- Being taken before is transitive. -/
theorem Beats.trans {v : Fin 512 → EReal} {a b c : Fin 512} (h : Beats v a b) (g : Beats v b c) : Beats v a c := by
  rcases h with h | ⟨h, h'⟩ <;> rcases g with g | ⟨g, g'⟩
  · exact .inl (g.trans h)
  · exact .inl (g ▸ h)
  · exact .inl (h ▸ g)
  · exact .inr ⟨g.trans h, h'.trans g'⟩

/-- An index taken before every other is the first at which the negated row is least. -/
theorem Beats.isFirst {d : Fin 512 → EReal} {k : Fin 512} (h : ∀ j, Beats (fun k => -d k) k j) : IsFirst d k := by
  refine ⟨fun j => ?_, fun j e => ?_⟩
  · rcases h j with h | ⟨h, _⟩
    · exact (EReal.neg_lt_neg_iff.mp h).le
    · exact (neg_injective h).ge
  · rcases h j with h | ⟨_, h⟩
    · exact absurd e (EReal.neg_lt_neg_iff.mp h).ne'
    · exact h

/-- The body, as two choices. -/
theorem body_eq (a b : Ideal .f32 × BitVec 32) : reducer_argmax_f32_i32 (F := Ideal) a b
    = (if (b.1 : EReal) < a.1 then a.1 else b.1,
       if (b.1 : EReal) < a.1 ∨ ((a.1 : EReal) = b.1 ∧ a.2.toInt < b.2.toInt) then a.2 else b.2) := by
  have h1 : FloatOps.cmpf .ogt a.1 b.1 = BitVec.ofBool (decide ((b.1 : EReal) < a.1)) := rfl
  have h2 : FloatOps.cmpf .une a.1 a.1 = BitVec.ofBool (decide ((a.1 : EReal) ≠ a.1)) := rfl
  have h3 : FloatOps.cmpf .oeq a.1 b.1 = BitVec.ofBool (decide ((a.1 : EReal) = b.1)) := rfl
  have h4 : IntOp.cmpi .slt a.2 b.2 = BitVec.ofBool (decide (a.2.toInt < b.2.toInt)) := rfl
  unfold reducer_argmax_f32_i32
  simp only [h1, h2, h3, h4]
  by_cases p : (b.1 : EReal) < a.1 <;> by_cases q : (a.1 : EReal) = b.1 <;> by_cases r : a.2.toInt < b.2.toInt <;>
    simp [p, q, r, Scalar.select, IntOp.ori, IntOp.andi]

/-- The body of two of a row's values is one of them, taken before both. -/
theorem body_pair (v : Fin 512 → EReal) (i j : Fin 512) :
    ∃ k, reducer_argmax_f32_i32 (F := Ideal) (pair v i) (pair v j) = pair v k ∧ Beats v k i ∧ Beats v k j := by
  rw [body_eq]
  unfold pair
  simp only [toInt_ofNat]
  rcases lt_trichotomy (v j) (v i) with h | h | h
  · exact ⟨i, by rw [if_pos h, if_pos (.inl h)], .refl v i, .inl h⟩
  · by_cases g : i < j
    · refine ⟨i, ?_, .refl v i, .inr ⟨h, g.le⟩⟩
      rw [if_neg h.not_lt, if_pos (.inr ⟨h.symm, by exact_mod_cast g⟩), h]
    · refine ⟨j, ?_, .inr ⟨h.symm, not_lt.mp g⟩, .refl v j⟩
      rw [if_neg h.not_lt, if_neg]
      rintro (e | ⟨_, e⟩)
      · exact h.not_lt e
      · exact g (by exact_mod_cast e)
  · refine ⟨j, ?_, .inl h, .refl v j⟩
    rw [if_neg h.asymm, if_neg]
    rintro (e | ⟨e, _⟩)
    · exact h.asymm e
    · exact h.ne e

/-- The fold over some of a row's values, from one of them, is one taken before them all. -/
theorem fold_pairs (v : Fin 512 → EReal) (L : List (Fin 512)) : ∀ i, ∃ k,
    (L.map (pair v)).foldl (reducer_argmax_f32_i32 (F := Ideal)) (pair v i) = pair v k ∧ Beats v k i ∧ ∀ j ∈ L, Beats v k j := by
  induction L with
  | nil => exact fun i => ⟨i, rfl, .refl v i, by simp⟩
  | cons a L ih =>
    intro i
    obtain ⟨b, hb, hi, ha⟩ := body_pair v i a
    obtain ⟨k, hk, h, hL⟩ := ih b
    refine ⟨k, ?_, h.trans hi, ?_⟩
    · rw [List.map_cons, List.foldl_cons, hb, hk]
    · intro j hj
      rcases List.mem_cons.mp hj with rfl | hj
      · exact h.trans ha
      · exact hL j hj

/-- The fold over all of a row's values, in any order, from a value below them all: the first index of the greatest. -/
theorem fold_row (d : Fin 512 → EReal) (hd : ∀ k, -d k ≠ ⊥) (L : List (Fin 512)) (hL : ∀ k, k ∈ L) (z : BitVec 32) :
    ((L.map (pair fun k => -d k)).foldl (reducer_argmax_f32_i32 (F := Ideal)) ((⊥ : EReal), z)).2 = BitVec.ofNat 32 (first d : ℕ) := by
  cases L with
  | nil => exact absurd (hL 0) (by simp)
  | cons a L =>
    have h0 : reducer_argmax_f32_i32 (F := Ideal) ((⊥ : EReal), z) (pair (fun k => -d k) a) = pair (fun k => -d k) a := by
      rw [body_eq]
      unfold pair
      have h : ¬ (-d a < (⊥ : EReal)) := not_lt_bot
      simp only []
      rw [if_neg h, if_neg]
      rintro (e | ⟨e, _⟩)
      · exact h e
      · exact hd a e.symm
    obtain ⟨k, hk, ha, hj⟩ := fold_pairs (fun k => -d k) L a
    rw [List.map_cons, List.foldl_cons, h0, hk]
    have hf : IsFirst d k := Beats.isFirst fun j => by
      rcases List.mem_cons.mp (hL j) with rfl | h
      · exact ha
      · exact hj j h
    rw [first_eq hf]
    rfl

/-- The column of an index. -/
def col {n : ℕ} (i : (⟨2, ![n, 512]⟩ : Shape).Idx) : Fin 512 := i (1 : Fin 2)

/-- The arg-max along the rows of a matrix, at a row that is the negation of `d`. -/
theorem argReduce_row {n : ℕ} {t u : Shape} (h : (⟨2, ![n, 512]⟩ : Shape).ReducesTo [1] t) (hu : 0 < u.numel) (j : t.Idx) (r : Fin n)
    (hr : r.val = (j ⟨0, h.lt_r2_a1_0⟩).val)
    (x : FVec Ideal ⟨2, ![n, 512]⟩ .f32) (y : (⟨2, ![n, 512]⟩ : Shape).Idx → BitVec 32) (ix : u.Idx → Ideal .f32) (iy : u.Idx → BitVec 32)
    (hix : ix (Shape.Idx.first hu) = (⊥ : EReal)) (hy : ∀ k : Fin 512, y (ix2 r k) = BitVec.ofNat 32 (k : ℕ))
    (d : Fin 512 → EReal) (hx : ∀ k : Fin 512, x (ix2 r k) = -d k) (hd : ∀ k, -d k ≠ ⊥) :
    (Host.argReduce (reducer_argmax_f32_i32 (F := Ideal)) x y ix iy h hu j).2 = BitVec.ofNat 32 (first d : ℕ) := by
  rw [Ideal.argReduce_eq_reduce2, Host.reduce2_eq_foldl_fiber, hix]
  have hfib : ∀ i : (⟨2, ![n, 512]⟩ : Shape).Idx, h.drop i = j ↔ ∃ k : Fin 512, ix2 r k = i := fun i => by
    have e := h.fiber_r2_a1 j i
    rw [show (⟨(j ⟨0, h.lt_r2_a1_0⟩).val, Shape.coordLt (j ⟨0, h.lt_r2_a1_0⟩) h.size_r2_a1_0⟩ : Fin n) = r from Fin.ext hr.symm] at e
    exact e
  have hL : Host.argReduceFiber x y h j
      = ((((List.finRange (⟨2, ![n, 512]⟩ : Shape).numel).filter fun m => h.drop ((⟨2, ![n, 512]⟩ : Shape).rowMajor.symm m) = j).map
          fun m => col ((⟨2, ![n, 512]⟩ : Shape).rowMajor.symm m)).map (pair fun k => -d k)) := by
    unfold Host.argReduceFiber
    rw [List.map_map]
    refine List.map_congr_left fun m hm => ?_
    have hm' := of_decide_eq_true (List.mem_filter.mp hm).2
    obtain ⟨k, hk⟩ := (hfib _).mp hm'
    simp only [Function.comp, ← hk, hx, hy]
    rfl
  rw [hL]
  refine fold_row d hd _ (fun k => ?_) _
  refine List.mem_map.mpr ⟨(⟨2, ![n, 512]⟩ : Shape).rowMajor (ix2 r k), List.mem_filter.mpr ⟨List.mem_finRange _, ?_⟩, ?_⟩
  · rw [Equiv.symm_apply_apply]
    exact decide_eq_true ((hfib _).mpr ⟨k, rfl⟩)
  · rw [Equiv.symm_apply_apply]
    rfl

/-- The reference's arg-max, as a function of the index. -/
theorem argMax_fun (D : FVec Ideal S65536x512 .f32) : argMax D = fun j =>
    (Host.argReduce reducer_argmax_f32_i32 D (iotaInDim S65536x512 32 1) (constant S_ .f32 0xFF800000#32) (constantI S_ 32 0#32)
      reducesTo_S65536x512_S65536_d1 h_S_ j).2 := rfl

/-- The reference's arg-max at a row that is the negation of `d`. -/
theorem argMax_apply (D : FVec Ideal S65536x512 .f32) (r : Fin 65536) (d : Fin 512 → EReal)
    (h : ∀ k : Fin 512, D (ix2 r k) = -d k) (hd : ∀ k, -d k ≠ ⊥) : argMax D (ix1 r) = BitVec.ofNat 32 (first d : ℕ) :=
  (congrFun (argMax_fun D) (ix1 r)).trans <|
    argReduce_row (n := 65536) reducesTo_S65536x512_S65536_d1 h_S_ (ix1 r) r rfl D (iotaInDim S65536x512 32 1)
      (constant S_ .f32 0xFF800000#32) (constantI S_ 32 0#32) word_bot (fun _ => rfl) d h hd

end Cert.ReferenceIdeal.ArgMax

end
-- ==== Proof.RefRows.lean ====
/-
  What the reference computes from one row: the distances, the nearest column, the one-hot row and the index.
-/
module

public import proofs.«01_k».proof.Proof.ArgMax
public import proofs.«01_k».proof.Proof.Arrays

@[expose] public section

set_option maxRecDepth 16384

noncomputable section

namespace Cert.ReferenceIdeal.RefRows

open Cert.ReferenceIdeal Cert.ReferenceIdeal.Gen Idealize.ShloMosaic
open Cert.Rows Cert.Words Cert.ReferenceIdeal.Ref Cert.ReferenceIdeal.ArgMax
open Cert.KernelIdeal.Block (tab)
open Cert.KernelIdeal.Arrays (rowOf rowOf_pair encAll idsAll)
open Cert.KernelIdeal.Whole (hot)

/-- Every entry of an array is real. -/
def AllReal {s : Shape} (x : FVec Ideal s .f32) : Prop := ∀ i, IsReal (x i)

/-- An entry of the inputs, by the number of its row. -/
theorem entry_apply (x : FVec Ideal S64x1024x32 .f32) (r : Fin 65536) (c : Fin 32) (h1 : (r : ℕ) / 1024 < 64) (h2 : (r : ℕ) % 1024 < 1024) :
    x (ix3 ⟨(r : ℕ) / 1024, h1⟩ ⟨(r : ℕ) % 1024, h2⟩ c) = rowOf x (r : ℕ) c := by
  unfold rowOf
  congr 2
  exact Fin.ext (by simp only []; omega)

/-- The negated distance of a row to a column. -/
theorem negDist_apply (x : FVec Ideal S64x1024x32 .f32) (w : FVec Ideal S32x512 .f32) (r : Fin 65536) (k : Fin 512) :
    negDist x w (ix2 r k) = -(distRef (rowOf x (r : ℕ)) (tab w) k) := by
  pointwise [negDist]
  simp only [entry_apply, word_two]
  rfl

/-- The distance of real rows is real. -/
theorem distRef_real {x : Fin 32 → EReal} {w : Fin 32 → Fin 512 → EReal} (hx : ∀ c, IsReal (x c)) (hw : ∀ c k, IsReal (w c k))
    (k : Fin 512) : IsReal (distRef x w k) := by
  choose x' hx using hx
  choose w' hw using hw
  obtain rfl : x = fun c => (x' c : EReal) := funext hx
  obtain rfl : w = fun c k => (w' c k : EReal) := funext fun c => funext (hw c)
  unfold distRef
  simp only [← EReal.coe_mul, ← coe_sum, ← EReal.coe_sub, ← EReal.coe_add]
  exact ⟨_, rfl⟩

variable {x : FVec Ideal S64x1024x32 .f32} {w : FVec Ideal S32x512 .f32}

/-- The column nearest a row: the first at which the distance is least. -/
theorem nearest_apply (hx : AllReal x) (hw : AllReal w) (r : Fin 65536) :
    nearest x w (ix1 r) = BitVec.ofNat 32 (sel (rowOf x (r : ℕ)) (tab w) : ℕ) := by
  have h1 : ∀ c, IsReal (rowOf x (r : ℕ) c) := fun c => hx _
  have h2 : ∀ c k, IsReal (tab w c k) := fun c k => hw _
  unfold nearest
  rw [argMax_apply (negDist x w) r (distRef (rowOf x (r : ℕ)) (tab w)) (fun k => negDist_apply x w r k), dist_eq h1 h2]
  · rfl
  · intro k
    obtain ⟨a, ha⟩ := distRef_real h1 h2 k
    rw [ha, ← EReal.coe_neg]
    exact EReal.coe_ne_bot _

/-- The one-hot rows at an index. -/
theorem oneHot_apply (i : IVec S65536 32) (r : Fin 65536) (k : Fin 512) :
    oneHot (F := Ideal) i (ix2 r k) = if i (ix1 r) = BitVec.ofNat 32 (k : ℕ) then (1 : EReal) else 0 := by
  rw [← uitofp_truth (i (ix1 r) = BitVec.ofNat 32 (k : ℕ))]
  pointwise [oneHot]
  rfl

/-- The one-hot rows of the nearest columns. -/
theorem oneHot_nearest (hx : AllReal x) (hw : AllReal w) (r : Fin 65536) (k : Fin 512) :
    oneHot (F := Ideal) (nearest x w) (ix2 r k) = hot w (rowOf x (r : ℕ)) k := by
  rw [oneHot_apply, nearest_apply hx hw, hot]
  simp only [ofNat_inj, eq_comm]

/-- The encodings of the reference are the kernel's. -/
theorem encodings_eq (hx : AllReal x) (hw : AllReal w) : oneHot (F := Ideal) (nearest x w) = encAll w x := by
  funext y
  obtain ⟨r, k, rfl⟩ : ∃ (r : Fin 65536) (k : Fin 512), y = ix2 r k := ⟨_, _, eq_ix2 y⟩
  exact oneHot_nearest hx hw r k

/-- The matrix of indices at an index. -/
theorem indices_apply (i : IVec S65536 32) (b : Fin 64) (h : Fin 1024) (hr : 1024 * (b : ℕ) + h < 65536) :
    indices i (ix2 b h) = i (ix1 ⟨1024 * (b : ℕ) + h, hr⟩) := by
  pointwise [indices]
  congr 2
  exact Fin.ext (by simp only []; omega)

/-- The index of the column nearest a row, at the row's two coordinates. -/
theorem indices_nearest (hx : AllReal x) (hw : AllReal w) (b : Fin 64) (h : Fin 1024) :
    indices (nearest x w) (ix2 b h) = BitVec.ofNat 32 (sel (fun c => x (ix3 b h c)) (tab w) : ℕ) := by
  have hr : 1024 * (b : ℕ) + h < 65536 := by omega
  rw [indices_apply _ b h hr, nearest_apply hx hw]
  exact congrArg (fun v => BitVec.ofNat 32 (sel v (tab w) : ℕ)) (rowOf_pair x b h)

/-- The indices of the reference are the kernel's. -/
theorem indices_eq (hx : AllReal x) (hw : AllReal w) : indices (nearest x w) = idsAll w x := by
  funext y
  obtain ⟨b, h, rfl⟩ : ∃ (b : Fin 64) (h : Fin 1024), y = ix2 b h := ⟨_, _, eq_ix2 y⟩
  exact indices_nearest hx hw b h

end Cert.ReferenceIdeal.RefRows

end
-- ==== Proof.Taken.lean ====
/-
  The rows the reference takes from the transposed table: at a matrix of indices that all lie in the table, the row taken at an
  index is the table's column of that number.
-/
module

public import proofs.«01_k».proof.Proof.RefRun
public import proofs.«01_k».proof.Proof.Words
public import Idealize.ShloMosaic.Lib.Pointwise
public import Idealize.ShloMosaic.Lib.ReduceAll

@[expose] public section

set_option maxRecDepth 16384

noncomputable section

namespace Cert.ReferenceIdeal.Taken

open Cert.ReferenceIdeal Cert.ReferenceIdeal.Gen Idealize.ShloMosaic
open Cert.Words Cert.ReferenceIdeal.Ref

/-- The dimension numbers of a gather of whole rows of the table. -/
abbrev rowDims (R C : ℕ) (wf : GatherDims.WF ⟨2, ![512, 32]⟩ ⟨3, ![R, C, 1]⟩ ⟨3, ![R, C, 32]⟩ [2] [0] [] [0] [] 2 ![1, 32]) :
    GatherDims ⟨2, ![512, 32]⟩ ⟨3, ![R, C, 1]⟩ ⟨3, ![R, C, 32]⟩ where
  offsetDims := [2]
  collapsedSliceDims := [0]
  operandBatchingDims := []
  startIndicesBatchingDims := []
  startIndexMap := [0]
  indexVectorDim := 2
  sliceSizes := ![1, 32]
  wf := wf

/-- A gather of whole rows of the table, at a row number that lies in the table. -/
theorem gather_row {α : Type} {R C : ℕ} (wf : GatherDims.WF ⟨2, ![512, 32]⟩ ⟨3, ![R, C, 1]⟩ ⟨3, ![R, C, 32]⟩ [2] [0] [] [0] [] 2 ![1, 32])
    (t : (⟨2, ![512, 32]⟩ : Shape).Idx → α) (idx : IVec ⟨3, ![R, C, 1]⟩ 32) (b : Fin R) (h : Fin C) (c : Fin 32) (k : Fin 512)
    (hk : idx (ix3 b h (0 : Fin 1)) = BitVec.ofNat 32 (k : ℕ)) :
    Host.gather (rowDims R C wf) t idx (ix3 b h c) = t (ix2 k c) := by
  unfold Host.gather
  refine congrArg t (funext fun a => Fin.ext ?_)
  show (rowDims R C wf).start (ix3 b h c) idx a + (rowDims R C wf).batchCoord (ix3 b h c) a + (rowDims R C wf).offCoord (ix3 b h c) a = _
  rw [GatherDims.batchCoord_eq_zero _ _ _ List.not_mem_nil]
  have h01 : a = (0 : Fin 2) ∨ a = (1 : Fin 2) := by
    match a with
    | ⟨0, _⟩ => exact .inl rfl
    | ⟨1, _⟩ => exact .inr rfl
  rcases h01 with rfl | rfl
  · rw [GatherDims.offCoord_eq_zero _ _ _ (fun g => ((GatherDims.mem_sKept _ _).mp g).1 (List.mem_singleton.mpr rfl))]
    unfold GatherDims.start
    rw [dif_pos (show (0 : Fin 2) ∈ (rowDims R C wf).startIndexMap from List.mem_singleton.mpr rfl)]
    have hsi : (rowDims R C wf).siIdx (ix3 b h c) ⟨List.idxOf (0 : Fin 2) (rowDims R C wf).startIndexMap,
        List.idxOf_lt_length_iff.2 (List.mem_singleton.mpr rfl)⟩ = ix3 b h (0 : Fin 1) := by
      funext z
      refine Fin.ext ?_
      match z with
      | ⟨0, _⟩ => rfl
      | ⟨1, _⟩ => rfl
      | ⟨2, _⟩ => rfl
    rw [hsi, hk, toInt_ofNat]
    have := k.isLt
    show min ((k : ℕ) : ℤ).toNat (512 - 1) + 0 + 0 = (k : ℕ)
    omega
  · unfold GatherDims.start
    rw [dif_neg (show (1 : Fin 2) ∉ (rowDims R C wf).startIndexMap from by simp)]
    simp only [Nat.zero_add, Nat.add_zero]
    rfl

variable (s : Fin 64 → Fin 1024 → Fin 512)

/-- A row number is not negative, so it is kept as it is. -/
theorem kept_word (k : Fin 512) : Scalar.select (IntOp.cmpi .slt (BitVec.ofNat 32 (k : ℕ)) 0#32)
    (IntOp.addi (BitVec.ofNat 32 (k : ℕ)) 512#32) (BitVec.ofNat 32 (k : ℕ)) = BitVec.ofNat 32 (k : ℕ) := by
  have h : IntOp.cmpi .slt (BitVec.ofNat 32 (k : ℕ)) 0#32 = BitVec.ofBool (decide ((BitVec.ofNat 32 (k : ℕ)).toInt < (0#32).toInt)) := rfl
  rw [h, toInt_ofNat, decide_eq_false (by simp)]
  rfl

/-- A row number lies in the table. -/
theorem inside_word (k : Fin 512) : IntOp.andi (IntOp.cmpi .sge (BitVec.ofNat 32 (k : ℕ)) 0#32)
    (IntOp.cmpi .sle (BitVec.ofNat 32 (k : ℕ)) 511#32) = 1#1 := by
  have h1 : IntOp.cmpi .sge (BitVec.ofNat 32 (k : ℕ)) 0#32 = BitVec.ofBool (decide ((0#32).toInt ≤ (BitVec.ofNat 32 (k : ℕ)).toInt)) := rfl
  have h2 : IntOp.cmpi .sle (BitVec.ofNat 32 (k : ℕ)) 511#32 = BitVec.ofBool (decide ((BitVec.ofNat 32 (k : ℕ)).toInt ≤ (511#32).toInt)) := rfl
  have hk := k.isLt
  have e : (511#32 : BitVec 32).toInt = 511 := by decide
  rw [h1, h2, toInt_ofNat, e, decide_eq_true (by simp), decide_eq_true (by omega)]
  rfl

/-- A matrix of indices, each the number of a row of the table. -/
def words : IVec S64x1024 32 := fun i => BitVec.ofNat 32 (s (i (0 : Fin 2)) (i (1 : Fin 2)) : ℕ)

/-- No index is negative, so each is kept. -/
theorem takeIndex_apply (b : Fin 64) (h : Fin 1024) (z : Fin 1) : takeIndex (words s) (ix3 b h z) = BitVec.ofNat 32 (s b h : ℕ) := by
  pointwise [takeIndex]
  exact kept_word (s b h)

/-- Every index lies in the table. -/
theorem takeInside_apply (y : S64x1024.Idx) : takeInside (takeIndex (words s)) y = 1#1 := by
  unfold takeInside
  refine Host.reduce_andi_one _ _ _ _ _ rfl fun i => ?_
  obtain ⟨b, h, z, rfl⟩ : ∃ (b : Fin 64) (h : Fin 1024) (z : Fin 1), i = ix3 b h z := ⟨_, _, _, eq_ix3 i⟩
  pointwise
  rw [takeIndex_apply]
  exact inside_word (s b h)

/-- The row taken at an index. -/
theorem take_apply (w : FVec Ideal S32x512 .f32) (b : Fin 64) (h : Fin 1024) (c : Fin 32) :
    take (F := Ideal) (table w) (words s) (ix3 b h c) = w (ix2 c (s b h)) := by
  pointwise [take]
  rw [takeInside_apply]
  refine (gather_row (R := 64) (C := 1024) gather_S512x32_S64x1024x1_S64x1024x32_2_0_n_n_0_2_132_wf (table w) (takeIndex (words s)) b h c (s b h)
    (takeIndex_apply s b h 0)).trans ?_
  pointwise [table]

end Cert.ReferenceIdeal.Taken

end
-- ==== Proof.RefSums.lean ====
/-
  What the reference's remaining results are: the quantised rows, the loss and the perplexity, each the kernel's.
-/
module

public import proofs.«01_k».proof.Proof.RefRows
public import proofs.«01_k».proof.Proof.Taken

@[expose] public section

set_option maxRecDepth 16384

noncomputable section

namespace Cert.ReferenceIdeal.RefSums

open Cert.ReferenceIdeal Cert.ReferenceIdeal.Gen Idealize.ShloMosaic
open Cert.Rows Cert.Words Cert.ReferenceIdeal.Ref Cert.ReferenceIdeal.RefRows Cert.ReferenceIdeal.Taken
open Cert.KernelIdeal.Block (tab)
open Cert.KernelIdeal.Arrays (rowOf rowOf_pair encAll idsAll quantAll counts squares lossOf perplexityOf)
open Cert.KernelIdeal.Whole (hot square moved)

variable {x : FVec Ideal S64x1024x32 .f32} {w : FVec Ideal S32x512 .f32}

/-- The quantised rows at an index: the nearest column's entry. -/
theorem quantized_apply (hx : AllReal x) (hw : AllReal w) (b : Fin 64) (h : Fin 1024) (c : Fin 32) :
    quantized x w (ix3 b h c) = tab w c (sel (fun c => x (ix3 b h c)) (tab w)) := by
  unfold quantized
  rw [indices_eq hx hw]
  exact take_apply (fun b h => sel (fun c => x (ix3 b h c)) (tab w)) w b h c

/-- The quantised result of the reference is the kernel's. -/
theorem straight_eq (hx : AllReal x) (hw : AllReal w) : straight (quantized x w) x = quantAll w x := by
  funext y
  obtain ⟨b, h, c, rfl⟩ : ∃ (b : Fin 64) (h : Fin 1024) (c : Fin 32), y = ix3 b h c := ⟨_, _, _, eq_ix3 y⟩
  exact congrArg (fun q => x (ix3 b h c) + (q - x (ix3 b h c))) (quantized_apply hx hw b h c)

/-- A sum over rows by their number is a sum over their two coordinates. -/
theorem sum_rows (f : ℕ → EReal) (n : ℕ) :
    ∑ r ∈ Finset.range (1024 * n), f r = ∑ b ∈ Finset.range n, ∑ h ∈ Finset.range 1024, f (1024 * b + h) := by
  induction n with
  | zero => rfl
  | succ n ih => rw [Nat.mul_succ, Finset.sum_range_add, ih, Finset.sum_range_succ (fun b => ∑ h ∈ Finset.range 1024, f (1024 * b + h)) n]

/-- The summed squares, by the coordinates of the entries. -/
theorem squares_eq (hx : AllReal x) (hw : AllReal w) : squares w x 65536
    = ∑ b : Fin 64, ∑ h : Fin 1024, ∑ c : Fin 32, (quantized x w (ix3 b h c) - x (ix3 b h c)) * (quantized x w (ix3 b h c) - x (ix3 b h c)) := by
  unfold squares
  rw [show (65536 : ℕ) = 1024 * 64 from rfl, sum_rows, Finset.sum_range]
  refine Finset.sum_congr rfl fun b _ => ?_
  rw [Finset.sum_range]
  refine Finset.sum_congr rfl fun h _ => ?_
  rw [rowOf_pair, square]
  refine Finset.sum_congr rfl fun c _ => ?_
  rw [quantized_apply hx hw]

/-- The loss of the reference is the kernel's. -/
theorem loss_eq (hx : AllReal x) (hw : AllReal w) : loss (quantized x w) x = fun _ => lossOf (squares w x 65536) := by
  funext y
  rw [squares_eq hx hw]
  generalize quantized x w = q
  pointwise [loss, meanSq]
  rfl

/-- The mean of the one-hot rows at a column. -/
theorem meanRows_apply (hx : AllReal x) (hw : AllReal w) (k : Fin 512) :
    meanRows (oneHot (F := Ideal) (nearest x w)) (ix1 k) = Ideal.div (counts w x 65536 k) (Ideal.ofBits .f32 0x47800000#32) := by
  have e : counts w x 65536 k = ∑ r : Fin 65536, oneHot (F := Ideal) (nearest x w) (ix2 r k) := by
    unfold counts
    rw [Finset.sum_range]
    exact Finset.sum_congr rfl fun r _ => (oneHot_nearest hx hw r k).symm
  rw [e]
  generalize oneHot (F := Ideal) (nearest x w) = m
  pointwise [meanRows]

/-- The perplexity of the reference is the kernel's. -/
theorem perplexity_eq (hx : AllReal x) (hw : AllReal w) :
    perplexity (oneHot (F := Ideal) (nearest x w)) = fun _ => perplexityOf (counts w x 65536) := by
  funext y
  have e := meanRows_apply hx hw
  unfold perplexityOf
  simp only [← e]
  generalize oneHot (F := Ideal) (nearest x w) = m
  pointwise [perplexity]
  rw [zero_sub]

end Cert.ReferenceIdeal.RefSums

end
-- ==== Proof.Finite.lean ====
/-
  What the precondition says on the extended reals: every entry of both arguments is a real number, neither infinity.
-/
module

public import proofs.«01_k».proof.Pre_finite
public import proofs.«01_k».proof.Proof.RefRows

@[expose] public section

noncomputable section

namespace Cert.Pre_finite

open Idealize.ShloMosaic Cert.Rows Cert.Words Cert.ReferenceIdeal.RefRows

/-- The side conditions of the precondition's operations. -/
instance facts : Cert.Pre_finite.Facts where
  bcast_S_S64x1024x32 := by decide
  bcast_S_S32x512 := by decide

/-- An extended real whose absolute value is below the top is real. -/
theorem isReal_of_lt {a : EReal} (h : Ideal.cmp .olt (max a (-a)) (Ideal.ofBits .f32 0x7F800000#32) = 1#1) : IsReal a := by
  rw [word_top] at h
  have h' : max a (-a) < ⊤ := by
    by_contra hn
    have e : Ideal.cmp .olt (max a (-a)) ⊤ = BitVec.ofBool (decide (max a (-a) < ⊤)) := rfl
    rw [e, decide_eq_false hn] at h
    exact absurd h (by decide)
  induction a using EReal.rec with
  | bot => simp at h'
  | top => simp at h'
  | coe r => exact ⟨r, rfl⟩

variable {x : FVec Ideal S64x1024x32 .f32} {w : FVec Ideal S32x512 .f32}

/-- The first argument's entries are real. -/
theorem inputs_real (h : (Cert.Pre_finite.fn x w).1 = fun _ => 1#1) : AllReal x :=
  fun i => isReal_of_lt (congrFun h i)

/-- The second argument's entries are real. -/
theorem table_real (h : (Cert.Pre_finite.fn x w).2 = fun _ => 1#1) : AllReal w :=
  fun i => isReal_of_lt (congrFun h i)

end Cert.Pre_finite

end
-- ==== Proof.lean ====
/-
  The certificate: the kernel runs and leaves its arguments as they were, as printed and on the extended reals; so does the
  reference; and on finite arguments the five results of the two are equal on the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Final
public import proofs.«01_k».proof.Proof.RefSums
public import proofs.«01_k».proof.Proof.Finite
public import Idealize.ShloMosaic.Adequacy
public import Idealize.ShloMosaic.Init

@[expose] public section

noncomputable section

namespace Cert.Proof

open Idealize.ShloMosaic Idealize.SL.Sem
open Cert.KernelIdeal.Arrays (argX argW encAll idsAll quantAll counts squares lossOf perplexityOf)
open Cert.ReferenceIdeal.RefRows (AllReal)

/-- The reference runs, leaves its arguments as they were, and holds no semaphore. -/
theorem reference_frame : Cert.quiescent_ReferenceIdeal (hReferenceIdeal := Cert.ReferenceIdeal.Gen.facts) := fun m ρ _ =>
  (θ_run _ _ _).mono (fun r h => ⟨fun c => ⟨(h c).2.2.2.2.2.1, (h c).2.2.2.2.2.2⟩, sem_eq_zero_of_no_sems (by decide) r.2⟩)
    (Cert.ReferenceIdeal.Ref.run (F := Ideal) m ρ)

/-- On real arguments the reference ends with the kernel's five results. -/
theorem reference_results (m' : (ℓ : Loc Cert.ReferenceIdeal.nD Cert.ReferenceIdeal.τ Cert.ReferenceIdeal.sig) → Buf (Elt Ideal) ℓ)
    (g' : Dev Cert.ReferenceIdeal.nD → PrngReg)
    (x : Dev Cert.ReferenceIdeal.nD → FVec Ideal Cert.ReferenceIdeal.S64x1024x32 .f32)
    (w : Dev Cert.ReferenceIdeal.nD → FVec Ideal Cert.ReferenceIdeal.S32x512 .f32)
    (hx : ∀ c : Dev Cert.ReferenceIdeal.nD, m' ((c.tc : Thread Cert.ReferenceIdeal.nD Cert.ReferenceIdeal.τ).loc Cert.ReferenceIdeal.main_arg0) = x c)
    (hw : ∀ c : Dev Cert.ReferenceIdeal.nD, m' ((c.tc : Thread Cert.ReferenceIdeal.nD Cert.ReferenceIdeal.τ).loc Cert.ReferenceIdeal.main_arg1) = w c)
    (rx : ∀ c, AllReal (x c)) (rw' : ∀ c, AllReal (w c)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
          r.2.mem ((c.tc : Thread Cert.ReferenceIdeal.nD Cert.ReferenceIdeal.τ).loc Cert.ReferenceIdeal.main_v31) = quantAll (w c) (x c)
          ∧ r.2.mem ((c.tc : Thread Cert.ReferenceIdeal.nD Cert.ReferenceIdeal.τ).loc Cert.ReferenceIdeal.main_v29)
            = (fun _ => lossOf (squares (w c) (x c) 65536))
          ∧ r.2.mem ((c.tc : Thread Cert.ReferenceIdeal.nD Cert.ReferenceIdeal.τ).loc Cert.ReferenceIdeal.main_v41)
            = (fun _ => perplexityOf (counts (w c) (x c) 65536))
          ∧ r.2.mem ((c.tc : Thread Cert.ReferenceIdeal.nD Cert.ReferenceIdeal.τ).loc Cert.ReferenceIdeal.main_v16) = encAll (w c) (x c)
          ∧ r.2.mem ((c.tc : Thread Cert.ReferenceIdeal.nD Cert.ReferenceIdeal.τ).loc Cert.ReferenceIdeal.main_v17) = idsAll (w c) (x c)
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  refine (θ_run _ _ _).mono (fun r h c => ?_) (Cert.ReferenceIdeal.Ref.run (F := Ideal) m' g')
  obtain ⟨h0, h1, h2, h3, h4, h5, h6⟩ := h c
  rw [hx c, hw c] at h0 h1
  rw [hx c, hw c] at h2 h3 h4
  exact ⟨h0.trans (Cert.ReferenceIdeal.RefSums.straight_eq (rx c) (rw' c)), h1.trans (Cert.ReferenceIdeal.RefSums.loss_eq (rx c) (rw' c)),
    h2.trans (Cert.ReferenceIdeal.RefSums.perplexity_eq (rx c) (rw' c)), h3.trans (Cert.ReferenceIdeal.RefRows.encodings_eq (rx c) (rw' c)),
    h4.trans (Cert.ReferenceIdeal.RefRows.indices_eq (rx c) (rw' c)), h5, h6⟩

/-- On finite arguments the five results of kernel and reference are equal. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hm ha =>
  ⟨fun c => quantAll (argW m c) (argX m c), fun c => (fun _ => lossOf (squares (argW m c) (argX m c) 65536)),
    fun c => (fun _ => perplexityOf (counts (argW m c) (argX m c) 65536)), fun c => encAll (argW m c) (argX m c),
    fun c => idsAll (argW m c) (argX m c), Cert.KernelIdeal.Final.run m g,
    reference_results m' g' (fun c => argX m c) (fun c => argW m c) (fun c => (ha c).1) (fun c => (ha c).2)
      (fun c => Cert.Pre_finite.inputs_real (hm c).1) (fun c => Cert.Pre_finite.table_real (hm c).2)⟩

/-- Everything the certificate claims. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    equal_results⟩

end Cert.Proof

end
